-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_within_range [hPre_within_range : Cert.Pre_within_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_range [hReferenceIdeal : Cert.ReferenceIdeal.Facts] [hPre_within_range : Cert.Pre_within_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v82) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def holds_ReferenceIdeal_near_product_pre_within_range [hReferenceIdeal : Cert.ReferenceIdeal.Facts] [hPre_within_range : Cert.Pre_within_range.Facts] [hPost_near_product : Cert.Post_near_product.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_range m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ (Cert.Post_near_product.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (r.2.mem ((c.tc : Thread Cert.ReferenceIdeal.nD Cert.ReferenceIdeal.τ).loc Cert.ReferenceIdeal.main_v82))) = (fun _ => 1#1))

def Claim : Prop :=
  ∃ (hKernel : Cert.Kernel.Facts) (hKernelIdeal : Cert.KernelIdeal.Facts) (hReferenceIdeal : Cert.ReferenceIdeal.Facts) (hPre_within_range : Cert.Pre_within_range.Facts) (hPost_near_product : Cert.Post_near_product.Facts),
    quiescent_Kernel (hKernel := hKernel)
    ∧ quiescent_KernelIdeal (hKernelIdeal := hKernelIdeal)
    ∧ quiescent_ReferenceIdeal (hReferenceIdeal := hReferenceIdeal)
    ∧ quiescent_ReferenceIdeal_pre_within_range (hReferenceIdeal := hReferenceIdeal) (hPre_within_range := hPre_within_range)
    ∧ preserves_Kernel_KernelIdeal
    ∧ algebraic_KernelIdeal_ReferenceIdeal (hKernelIdeal := hKernelIdeal) (hReferenceIdeal := hReferenceIdeal)
    ∧ holds_ReferenceIdeal_near_product_pre_within_range (hReferenceIdeal := hReferenceIdeal) (hPre_within_range := hPre_within_range) (hPost_near_product := hPost_near_product)
-- ==== Post_near_product.lean ====
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x2048_S2048x1024_S1024x1024_1_0_0_1_n_n_wf : DotDims.WF S1024x2048 S2048x1024 S1024x1024 [1] [0] [0] [1] [] []

variable [Facts]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def fn {F : FTy → Type} [FloatOps F] (main_arg0 : FVec F S1024x2048 .f32) (main_arg1 : FVec F S2048x1024 .f32) (main_arg2 : FVec F S1024x1024 .f32) : IVec S1024x1024 1 :=
  let main_v0 : FVec F S1024x1024 .f32 := (fun l r => Host.dotGeneral dot_S1024x2048_S2048x1024_S1024x1024_1_0_0_1_n_n none l r) main_arg0 main_arg1
  let main_v1 : FVec F S1024x1024 .f32 := subf main_arg2 main_v0
  let main_v2 : FVec F S1024x1024 .f32 := Host.absf main_v1
  let main_cst : FVec F S_ .f32 := constant S_ .f32 0x3FAB851F#32
  let main_v3 : FVec F S1024x1024 .f32 := broadcastInDim S1024x1024 ![] bcast_S_S1024x1024 main_cst
  let main_v4 : IVec S1024x1024 1 := cmpf .ole main_v2 main_v3
  main_v4
-- ==== Pre_within_range.lean ====
abbrev S1024x2048 : Shape := ⟨2, ![1024, 2048]⟩
abbrev S2048x1024 : Shape := ⟨2, ![2048, 1024]⟩
abbrev S1024x512 : Shape := ⟨2, ![1024, 512]⟩
abbrev S512x1024 : Shape := ⟨2, ![512, 1024]⟩
abbrev S1024x1024 : Shape := ⟨2, ![1024, 1024]⟩
abbrev S_ : Shape := ⟨0, ![]⟩

class Facts : Prop where
  slices_S1024x2048_S1024x512_0_0 : S1024x2048.Slices ![0, 0] S1024x512
  slices_S2048x1024_S512x1024_0_0 : S2048x1024.Slices ![0, 0] S512x1024
  slices_S1024x2048_S1024x512_0_512 : S1024x2048.Slices ![0, 512] S1024x512
  slices_S2048x1024_S512x1024_512_0 : S2048x1024.Slices ![512, 0] S512x1024
  slices_S1024x2048_S1024x512_0_1024 : S1024x2048.Slices ![0, 1024] S1024x512
  slices_S2048x1024_S512x1024_1024_0 : S2048x1024.Slices ![1024, 0] S512x1024
  slices_S1024x2048_S1024x512_0_1536 : S1024x2048.Slices ![0, 1536] S1024x512
  slices_S2048x1024_S512x1024_1536_0 : S2048x1024.Slices ![1536, 0] S512x1024
  bcast_S_S1024x1024 : S_.BroadcastsInDim S1024x1024 (![] : Fin 0 → Fin S1024x1024.rank)
  dot_S1024x512_S512x1024_S1024x1024_1_0_0_1_n_n_wf : DotDims.WF S1024x512 S512x1024 S1024x1024 [1] [0] [0] [1] [] []

variable [Facts]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def fn_part1 {F : FTy → Type} [FloatOps F] (main_v11 : FVec F S1024x1024 .f32) (main_v14 : IVec S1024x1024 1) (main_v17 : IVec S1024x1024 1) (main_v20 : IVec S1024x1024 1) : IVec S1024x1024 1 :=
  let main_v21 : FVec F S1024x1024 .f32 := Host.absf main_v11
  let main_cst_2 : FVec F S_ .f32 := constant S_ .f32 0x42E20000#32
  let main_v22 : FVec F S1024x1024 .f32 := broadcastInDim S1024x1024 ![] bcast_S_S1024x1024 main_cst_2
  let main_v23 : IVec S1024x1024 1 := cmpf .ole main_v21 main_v22
  let main_v24 : IVec S1024x1024 1 := andi main_v14 main_v17
  let main_v25 : IVec S1024x1024 1 := andi main_v24 main_v20
  let main_v26 : IVec S1024x1024 1 := andi main_v25 main_v23
  main_v26

def fn {F : FTy → Type} [FloatOps F] (main_arg0 : FVec F S1024x2048 .f32) (main_arg1 : FVec F S2048x1024 .f32) : IVec S1024x1024 1 :=
  let main_v0 : FVec F S1024x512 .f32 := (extractStridedSlice S1024x512 ![0, 0] · slices_S1024x2048_S1024x512_0_0) main_arg0
  let main_v1 : FVec F S512x1024 .f32 := (extractStridedSlice S512x1024 ![0, 0] · slices_S2048x1024_S512x1024_0_0) main_arg1
  let main_v2 : FVec F S1024x1024 .f32 := (fun l r => Host.dotGeneral dot_S1024x512_S512x1024_S1024x1024_1_0_0_1_n_n none l r) main_v0 main_v1
  let main_v3 : FVec F S1024x512 .f32 := (extractStridedSlice S1024x512 ![0, 512] · slices_S1024x2048_S1024x512_0_512) main_arg0
  let main_v4 : FVec F S512x1024 .f32 := (extractStridedSlice S512x1024 ![512, 0] · slices_S2048x1024_S512x1024_512_0) main_arg1
  let main_v5 : FVec F S1024x1024 .f32 := (fun l r => Host.dotGeneral dot_S1024x512_S512x1024_S1024x1024_1_0_0_1_n_n none l r) main_v3 main_v4
  let main_v6 : FVec F S1024x512 .f32 := (extractStridedSlice S1024x512 ![0, 1024] · slices_S1024x2048_S1024x512_0_1024) main_arg0
  let main_v7 : FVec F S512x1024 .f32 := (extractStridedSlice S512x1024 ![1024, 0] · slices_S2048x1024_S512x1024_1024_0) main_arg1
  let main_v8 : FVec F S1024x1024 .f32 := (fun l r => Host.dotGeneral dot_S1024x512_S512x1024_S1024x1024_1_0_0_1_n_n none l r) main_v6 main_v7
  let main_v9 : FVec F S1024x512 .f32 := (extractStridedSlice S1024x512 ![0, 1536] · slices_S1024x2048_S1024x512_0_1536) main_arg0
  let main_v10 : FVec F S512x1024 .f32 := (extractStridedSlice S512x1024 ![1536, 0] · slices_S2048x1024_S512x1024_1536_0) main_arg1
  let main_v11 : FVec F S1024x1024 .f32 := (fun l r => Host.dotGeneral dot_S1024x512_S512x1024_S1024x1024_1_0_0_1_n_n none l r) main_v9 main_v10
  let main_v12 : FVec F S1024x1024 .f32 := Host.absf main_v2
  let main_cst : FVec F S_ .f32 := constant S_ .f32 0x42E20000#32
  let main_v13 : FVec F S1024x1024 .f32 := broadcastInDim S1024x1024 ![] bcast_S_S1024x1024 main_cst
  let main_v14 : IVec S1024x1024 1 := cmpf .ole main_v12 main_v13
  let main_v15 : FVec F S1024x1024 .f32 := Host.absf main_v5
  let main_cst_0 : FVec F S_ .f32 := constant S_ .f32 0x42E20000#32
  let main_v16 : FVec F S1024x1024 .f32 := broadcastInDim S1024x1024 ![] bcast_S_S1024x1024 main_cst_0
  let main_v17 : IVec S1024x1024 1 := cmpf .ole main_v15 main_v16
  let main_v18 : FVec F S1024x1024 .f32 := Host.absf main_v8
  let main_cst_1 : FVec F S_ .f32 := constant S_ .f32 0x42E20000#32
  let main_v19 : FVec F S1024x1024 .f32 := broadcastInDim S1024x1024 ![] bcast_S_S1024x1024 main_cst_1
  let main_v20 : IVec S1024x1024 1 := cmpf .ole main_v18 main_v19
  fn_part1 (F := F) main_v11 main_v14 main_v17 main_v20
-- ==== Kernel.lean ====
abbrev S1024x512 : Shape := ⟨2, ![1024, 512]⟩
abbrev S512x1024 : Shape := ⟨2, ![512, 1024]⟩
abbrev S256x1024 : Shape := ⟨2, ![256, 1024]⟩
abbrev S3x256x1024 : Shape := ⟨3, ![3, 256, 1024]⟩
abbrev S3 : Shape := ⟨1, ![3]⟩
abbrev S_ : Shape := ⟨0, ![]⟩
abbrev S256x512 : Shape := ⟨2, ![256, 512]⟩
abbrev S1x256x1024 : Shape := ⟨3, ![1, 256, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S256x1024, .f32⟩
  | .local _ .vmem, ⟨0, _⟩ => ⟨S1024x512, .f32⟩
  | .local _ .vmem, ⟨1, _⟩ => ⟨S512x1024, .f32⟩
  | .local _ .vmem, ⟨2, _⟩ => ⟨S256x1024, .f32⟩
  | .local _ .vmem, ⟨3, _⟩ => ⟨S3x256x1024, .i8⟩
  | .local _ .vmem, ⟨4, _⟩ => ⟨S3x256x1024, .i8⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_7 : BitVec 32 := 1#32
  let v11 : BitVec 32 := Scalar.muli v5 c1_i32_7
  let v12 : BitVec 32 := Scalar.addi c0_i32_8 v11
  v12.toNat
def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.xori v2 c1_i32_0
  let c256_i32 : BitVec 32 := 256#32
  let v13 : BitVec 32 := Scalar.muli v3 c256_i32
  let v14 : Index := Scalar.indexCast v13
  let c0 : Index := 0#32
  ![v14.toNat, 0]
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_22 : BitVec 32 := 1#32
  let v31 : BitVec 32 := Scalar.muli v3 c1_i32_22
  let v32 : BitVec 32 := Scalar.addi c0_i32_23 v31
  v32.toNat
def k0_off2 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_28 : BitVec 32 := 256#32
  let v41 : BitVec 32 := Scalar.muli v4 c256_i32_28
  let v42 : Index := Scalar.indexCast v41
  let c0_29 : Index := 0#32
  ![v42.toNat, 0]
def k0_dev5 (d0 : Dev nD) : Nat :=
  let c0_i32_43 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_42 : BitVec 32 := 1#32
  let v59 : BitVec 32 := Scalar.muli v4 c1_i32_42
  let v60 : BitVec 32 := Scalar.addi c0_i32_43 v59
  v60.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_62 : BitVec 32 := 1#32
  let v87 : BitVec 32 := Scalar.muli v5 c1_i32_62
  let v88 : BitVec 32 := Scalar.addi c0_i32_63 v87
  v88.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_68 : BitVec 32 := 256#32
  let v97 : BitVec 32 := Scalar.muli v2 c256_i32_68
  let v98 : Index := Scalar.indexCast v97
  let c0_69 : Index := 0#32
  ![v98.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x1024 : Shape := ⟨2, ![2048, 1024]⟩
abbrev S1024x512 : Shape := ⟨2, ![1024, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 169
  | .vmem => 0
  | .smem => 0
  | _ => 0

abbrev hbmTy0_0 (i : Nat) : BufTy := match i % 128 with
  | 0 => ⟨S1024x2048, .f32⟩
  | 1 => ⟨S2048x1024, .f32⟩
  | 2 => ⟨S1024x512, .f32⟩
  | 3 => ⟨S512x1024, .f32⟩
  | 4 => ⟨S1024x1024, .f32⟩
  | 5 => ⟨S1024x512, .f32⟩
  | 6 => ⟨S512x1024, .f32⟩
  | 7 => ⟨S1024x1024, .f32⟩
  | 8 => ⟨S1024x512, .f32⟩
  | 9 => ⟨S512x1024, .f32⟩
  | 10 => ⟨S1024x1024, .f32⟩
  | 11 => ⟨S1024x512, .f32⟩
  | 12 => ⟨S512x1024, .f32⟩
  | 13 => ⟨S1024x1024, .f32⟩
  | 14 => ⟨S1024x1024, .i32⟩
  | 15 => ⟨S_, .i32⟩
  | 16 => ⟨S_, .i32⟩
  | 17 => ⟨S1024x1024, .i32⟩
  | 18 => ⟨S1024x1024, .i32⟩
  | 19 => ⟨S1024x1024, .i32⟩
  | 20 => ⟨S_, .i32⟩
  | 21 => ⟨S1024x1024, .i32⟩
  | 22 => ⟨S1024x1024, .i1⟩
  | 23 => ⟨S1024x1024, .i32⟩
  | 24 => ⟨S1024x1024, .i32⟩
  | 25 => ⟨S_, .i32⟩
  | 26 => ⟨S1024x1024, .i32⟩
  | 27 => ⟨S1024x1024, .i1⟩
  | 28 => ⟨S1024x1024, .i1⟩
  | 29 => ⟨S_, .i32⟩
  | 30 => ⟨S1024x1024, .i32⟩
  | 31 => ⟨S1024x1024, .i32⟩
  | 32 => ⟨S1024x1024, .i32⟩
  | 33 => ⟨S_, .f32⟩
  | 34 => ⟨S1024x1024, .f32⟩
  | 35 => ⟨S_, .f32⟩
  | 36 => ⟨S1024x1024, .f32⟩
  | 37 => ⟨S_, .f32⟩
  | 38 => ⟨S1024x1024, .f32⟩
  | 39 => ⟨S1024x1024, .f32⟩
  | 40 => ⟨S_, .f32⟩
  | 41 => ⟨S_, .f32⟩
  | 42 => ⟨S_, .f32⟩
  | 43 => ⟨S1024x1024, .f32⟩
  | 44 => ⟨S1024x1024, .f32⟩
  | 45 => ⟨S_, .f32⟩
  | 46 => ⟨S1024x1024, .f32⟩
  | 47 => ⟨S1024x1024, .f32⟩
  | 48 => ⟨S1024x1024, .f32⟩
  | 49 => ⟨S1024x1024, .i32⟩
  | 50 => ⟨S1024x1024, .i8⟩
  | 51 => ⟨S_, .i32⟩
  | 52 => ⟨S1024x1024, .i32⟩
  | 53 => ⟨S1024x1024, .i1⟩
  | 54 => ⟨S_, .f32⟩
  | 55 => ⟨S_, .f32⟩
  | 56 => ⟨S1024x1024, .f32⟩
  | 57 => ⟨S1024x1024, .f32⟩
  | 58 => ⟨S1024x1024, .f32⟩
  | 59 => ⟨S_, .i32⟩
  | 60 => ⟨S1024x1024, .i32⟩
  | 61 => ⟨S1024x1024, .i1⟩
  | 62 => ⟨S1024x1024, .i32⟩
  | 63 => ⟨S1024x1024, .f32⟩
  | 64 => ⟨S_, .f32⟩
  | 65 => ⟨S_, .f32⟩
  | 66 => ⟨S1024x1024, .f32⟩
  | 67 => ⟨S1024x1024, .f32⟩
  | 68 => ⟨S1024x1024, .f32⟩
  | 69 => ⟨S_, .f32⟩
  | 70 => ⟨S1024x1024, .f32⟩
  | 71 => ⟨S1024x1024, .f32⟩
  | 72 => ⟨S_, .f32⟩
  | 73 => ⟨S_, .f32⟩
  | 74 => ⟨S_, .f32⟩
  | 75 => ⟨S1024x1024, .f32⟩
  | 76 => ⟨S1024x1024, .f32⟩
  | 77 => ⟨S_, .f32⟩
  | 78 => ⟨S1024x1024, .f32⟩
  | 79 => ⟨S1024x1024, .f32⟩
  | 80 => ⟨S1024x1024, .f32⟩
  | 81 => ⟨S1024x1024, .i32⟩
  | 82 => ⟨S1024x1024, .i8⟩
  | 83 => ⟨S_, .i32⟩
  | 84 => ⟨S1024x1024, .i32⟩
  | 85 => ⟨S1024x1024, .i1⟩
  | 86 => ⟨S_, .f32⟩
  | 87 => ⟨S_, .f32⟩
  | 88 => ⟨S1024x1024, .f32⟩
  | 89 => ⟨S1024x1024, .f32⟩
  | 90 => ⟨S1024x1024, .f32⟩
  | 91 => ⟨S_, .i32⟩
  | 92 => ⟨S1024x1024, .i32⟩
  | 93 => ⟨S1024x1024, .i1⟩
  | 94 => ⟨S1024x1024, .i32⟩
  | 95 => ⟨S1024x1024, .f32⟩
  | 96 => ⟨S_, .f32⟩
  | 97 => ⟨S_, .f32⟩
  | 98 => ⟨S1024x1024, .f32⟩
  | 99 => ⟨S1024x1024, .f32⟩
  | 100 => ⟨S1024x1024, .f32⟩
  | 101 => ⟨S_, .f32⟩
  | 102 => ⟨S1024x1024, .f32⟩
  | 103 => ⟨S1024x1024, .f32⟩
  | 104 => ⟨S_, .f32⟩
  | 105 => ⟨S_, .f32⟩
  | 106 => ⟨S_, .f32⟩
  | 107 => ⟨S1024x1024, .f32⟩
  | 108 => ⟨S1024x1024, .f32⟩
  | 109 => ⟨S_, .f32⟩
  | 110 => ⟨S1024x1024, .f32⟩
  | 111 => ⟨S1024x1024, .f32⟩
  | 112 => ⟨S1024x1024, .f32⟩
  | 113 => ⟨S1024x1024, .i32⟩
  | 114 => ⟨S1024x1024, .i8⟩
  | 115 => ⟨S_, .i32⟩
  | 116 => ⟨S1024x1024, .i32⟩
  | 117 => ⟨S1024x1024, .i1⟩
  | 118 => ⟨S_, .f32⟩
  | 119 => ⟨S_, .f32⟩
  | 120 => ⟨S1024x1024, .f32⟩
  | 121 => ⟨S1024x1024, .f32⟩
  | 122 => ⟨S1024x1024, .f32⟩
  | 123 => ⟨S_, .i32⟩
  | 124 => ⟨S1024x1024, .i32⟩
  | 125 => ⟨S1024x1024, .i1⟩
  | 126 => ⟨S1024x1024, .i32⟩
  | 127 => ⟨S1024x1024, .f32⟩
  | _ => ⟨S1024x2048, .f32⟩

abbrev hbmTy0_1 (i : Nat) : BufTy := match i % 128 with
  | 0 => ⟨S_, .f32⟩
  | 1 => ⟨S_, .f32⟩
  | 2 => ⟨S1024x1024, .f32⟩
  | 3 => ⟨S1024x1024, .f32⟩
  | 4 => ⟨S1024x1024, .f32⟩
  | 5 => ⟨S_, .f32⟩
  | 6 => ⟨S1024x1024, .f32⟩
  | 7 => ⟨S1024x1024, .f32⟩
  | 8 => ⟨S_, .f32⟩
  | 9 => ⟨S_, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S1024x1024, .i32⟩
  | 18 => ⟨S1024x1024, .i8⟩
  | 19 => ⟨S_, .i32⟩
  | 20 => ⟨S1024x1024, .i32⟩
  | 21 => ⟨S1024x1024, .i1⟩
  | 22 => ⟨S_, .f32⟩
  | 23 => ⟨S_, .f32⟩
  | 24 => ⟨S1024x1024, .f32⟩
  | 25 => ⟨S1024x1024, .f32⟩
  | 26 => ⟨S1024x1024, .f32⟩
  | 27 => ⟨S_, .i32⟩
  | 28 => ⟨S1024x1024, .i32⟩
  | 29 => ⟨S1024x1024, .i1⟩
  | 30 => ⟨S1024x1024, .i32⟩
  | 31 => ⟨S1024x1024, .f32⟩
  | 32 => ⟨S_, .f32⟩
  | 33 => ⟨S_, .f32⟩
  | 34 => ⟨S1024x1024, .f32⟩
  | 35 => ⟨S1024x1024, .f32⟩
  | 36 => ⟨S1024x1024, .f32⟩
  | 37 => ⟨S_, .f32⟩
  | 38 => ⟨S1024x1024, .f32⟩
  | 39 => ⟨S1024x1024, .f32⟩
  | 40 => ⟨S1024x1024, .f32⟩
  | _ => ⟨S1024x2048, .f32⟩

abbrev hbmTy (i : Nat) : BufTy := match i / 128 with
  | 0 => hbmTy0_0 i
  | 1 => hbmTy0_1 i
  | _ => ⟨S1024x2048, .f32⟩

abbrev bufTy : (tb : Table) → Fin (tcTables nBuf tb) → BufTy
  | .hbm, ⟨i, _⟩ => hbmTy i
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_call3_v0 : Ref sig .tc := ⟨.hbm, 55, rfl⟩
abbrev main_call3_v1 : Ref sig .tc := ⟨.hbm, 56, rfl⟩
abbrev main_v24 : Ref sig .tc := ⟨.hbm, 57, rfl⟩
abbrev main_v25 : Ref sig .tc := ⟨.hbm, 58, rfl⟩
abbrev main_c_6 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_call4_v0 : Ref sig .tc := ⟨.hbm, 65, rfl⟩
abbrev main_call4_v1 : Ref sig .tc := ⟨.hbm, 66, rfl⟩
abbrev main_v30 : Ref sig .tc := ⟨.hbm, 67, rfl⟩
abbrev main_v31 : Ref sig .tc := ⟨.hbm, 68, rfl⟩
abbrev main_cst_8 : Ref sig .tc := ⟨.hbm, 69, rfl⟩
abbrev main_v32 : Ref sig .tc := ⟨.hbm, 70, rfl⟩
abbrev main_v33 : Ref sig .tc := ⟨.hbm, 71, rfl⟩
abbrev main_cst_9 : Ref sig .tc := ⟨.hbm, 72, rfl⟩
abbrev main_cst_10 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_11 : Ref sig .tc := ⟨.hbm, 83, rfl⟩
abbrev main_v38 : Ref sig .tc := ⟨.hbm, 84, rfl⟩
abbrev main_v39 : Ref sig .tc := ⟨.hbm, 85, rfl⟩
abbrev main_cst_12 : Ref sig .tc := ⟨.hbm, 86, rfl⟩
abbrev main_call7_v0 : Ref sig .tc := ⟨.hbm, 87, rfl⟩
abbrev main_call7_v1 : Ref sig .tc := ⟨.hbm, 88, rfl⟩
abbrev main_v40 : Ref sig .tc := ⟨.hbm, 89, rfl⟩
abbrev main_v41 : Ref sig .tc := ⟨.hbm, 90, rfl⟩
abbrev main_c_13 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_14 : Ref sig .tc := ⟨.hbm, 96, rfl⟩
abbrev main_call8_v0 : Ref sig .tc := ⟨.hbm, 97, rfl⟩
abbrev main_call8_v1 : Ref sig .tc := ⟨.hbm, 98, rfl⟩
abbrev main_v46 : Ref sig .tc := ⟨.hbm, 99, rfl⟩
abbrev main_v47 : Ref sig .tc := ⟨.hbm, 100, rfl⟩
abbrev main_cst_15 : Ref sig .tc := ⟨.hbm, 101, rfl⟩
abbrev main_v48 : Ref sig .tc := ⟨.hbm, 102, rfl⟩
abbrev main_v49 : Ref sig .tc := ⟨.hbm, 103, rfl⟩
abbrev main_cst_16 : Ref sig .tc := ⟨.hbm, 104, rfl⟩
abbrev main_cst_17 : Ref sig .tc := ⟨.hbm, 105, rfl⟩
abbrev main_call9_v0 : Ref sig .tc := ⟨.hbm, 106, rfl⟩
abbrev main_call9_v1 : Ref sig .tc := ⟨.hbm, 107, rfl⟩
abbrev main_call9_v2 : Ref sig .tc := ⟨.hbm, 108, rfl⟩
abbrev main_call9_v3 : Ref sig .tc := ⟨.hbm, 109, rfl⟩
abbrev main_call9_v4 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_c_18 : Ref sig .tc := ⟨.hbm, 115, rfl⟩
abbrev main_v54 : Ref sig .tc := ⟨.hbm, 116, rfl⟩
abbrev main_v55 : Ref sig .tc := ⟨.hbm, 117, rfl⟩
abbrev main_cst_19 : Ref sig .tc := ⟨.hbm, 118, rfl⟩
abbrev main_call11_v0 : Ref sig .tc := ⟨.hbm, 119, rfl⟩
abbrev main_call11_v1 : Ref sig .tc := ⟨.hbm, 120, rfl⟩
abbrev main_v56 : Ref sig .tc := ⟨.hbm, 121, rfl⟩
abbrev main_v57 : Ref sig .tc := ⟨.hbm, 122, rfl⟩
abbrev main_c_20 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_cst_21 : Ref sig .tc := ⟨.hbm, 128, rfl⟩
abbrev main_call12_v0 : Ref sig .tc := ⟨.hbm, 129, rfl⟩
abbrev main_call12_v1 : Ref sig .tc := ⟨.hbm, 130, rfl⟩
abbrev main_v62 : Ref sig .tc := ⟨.hbm, 131, rfl⟩
abbrev main_v63 : Ref sig .tc := ⟨.hbm, 132, rfl⟩
abbrev main_cst_22 : Ref sig .tc := ⟨.hbm, 133, rfl⟩
abbrev main_v64 : Ref sig .tc := ⟨.hbm, 134, rfl⟩
abbrev main_v65 : Ref sig .tc := ⟨.hbm, 135, rfl⟩
abbrev main_cst_23 : Ref sig .tc := ⟨.hbm, 136, rfl⟩
abbrev main_cst_24 : Ref sig .tc := ⟨.hbm, 137, rfl⟩
abbrev main_call13_v0 : Ref sig .tc := ⟨.hbm, 138, rfl⟩
abbrev main_call13_v1 : Ref sig .tc := ⟨.hbm, 139, rfl⟩
abbrev main_call13_v2 : Ref sig .tc := ⟨.hbm, 140, rfl⟩
abbrev main_call13_v3 : Ref sig .tc := ⟨.hbm, 141, rfl⟩
abbrev main_call13_v4 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_c_25 : Ref sig .tc := ⟨.hbm, 147, rfl⟩
abbrev main_v70 : Ref sig .tc := ⟨.hbm, 148, rfl⟩
abbrev main_v71 : Ref sig .tc := ⟨.hbm, 149, rfl⟩
abbrev main_cst_26 : Ref sig .tc := ⟨.hbm, 150, rfl⟩
abbrev main_call15_v0 : Ref sig .tc := ⟨.hbm, 151, rfl⟩
abbrev main_call15_v1 : Ref sig .tc := ⟨.hbm, 152, rfl⟩
abbrev main_v72 : Ref sig .tc := ⟨.hbm, 153, rfl⟩
abbrev main_v73 : Ref sig .tc := ⟨.hbm, 154, rfl⟩
abbrev main_c_27 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_28 : Ref sig .tc := ⟨.hbm, 160, rfl⟩
abbrev main_call16_v0 : Ref sig .tc := ⟨.hbm, 161, rfl⟩
abbrev main_call16_v1 : Ref sig .tc := ⟨.hbm, 162, rfl⟩
abbrev main_v78 : Ref sig .tc := ⟨.hbm, 163, rfl⟩
abbrev main_v79 : Ref sig .tc := ⟨.hbm, 164, rfl⟩
abbrev main_cst_29 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩

abbrev nD : Nat := 1
abbrev τ : Topo := Topo.v7x

variable {F : FTy → Type} [FloatOps F]
-- ==== Proof.Talk.lean ====
/-
  What the four devices say to one another, over any float values.

  Device `c` has three peers, `pr 0 c`, `pr 1 c`, `pr 2 c`, and each of the three maps is its own inverse. It tells every
  peer that its landing slots are free (one unit of the peer's barrier), waits for three units of its own, sends peer
  `pr k c` the codes in its sending slot `k`, which land in that peer's landing slot `k`, and waits for its own three
  landings and for its own three sends to have left.

  The schedule below has one round. A barrier cell has three duties, one per peer, each handing over the landing slot
  that the cell's owner will write on that peer. A receive cell has one duty, handing over the landing slot with the
  peer's codes in it; a send cell has one, handing the sending slot back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ViewIndex

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's part and the exchange's, whose duties are named by the peer's number -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The peers -/

/-- Peer `k` of device `c`: the device whose number differs in the low bit, in both bits, in the high bit. -/
def pr : Fin 3 → Dev nD → Dev nD := ![![1, 0, 3, 2], ![3, 2, 1, 0], ![2, 3, 0, 1]]

theorem pr_pr : ∀ (k : Fin 3) (c : Dev nD), pr k (pr k c) = c := by decide
theorem pr_ne : ∀ (k : Fin 3) (c : Dev nD), pr k c ≠ c := by decide
theorem pr_eq_iff : ∀ (k : Fin 3) (c d : Dev nD), c = pr k d ↔ d = pr k c := by decide

/-- The peers as a re-numbering of the devices. -/
def prE (k : Fin 3) : Dev nD ≃ Dev nD := ⟨pr k, pr k, pr_pr k, pr_pr k⟩

theorem dev1_eq : ∀ c : Dev nD, (⟨k0_dev1 c, k0_dev1_lt c⟩ : Dev nD) = pr 0 c := by decide +kernel
theorem dev2_eq : ∀ c : Dev nD, (⟨k0_dev2 c, k0_dev2_lt c⟩ : Dev nD) = pr 1 c := by decide +kernel
theorem dev3_eq : ∀ c : Dev nD, (⟨k0_dev3 c, k0_dev3_lt c⟩ : Dev nD) = pr 2 c := by decide +kernel
theorem dev4_eq : ∀ c : Dev nD, (⟨k0_dev4 c, k0_dev4_lt c⟩ : Dev nD) = pr 0 c := by decide +kernel
theorem dev5_eq : ∀ c : Dev nD, (⟨k0_dev5 c, k0_dev5_lt c⟩ : Dev nD) = pr 1 c := by decide +kernel
theorem dev6_eq : ∀ c : Dev nD, (⟨k0_dev6 c, k0_dev6_lt c⟩ : Dev nD) = pr 2 c := by decide +kernel

/-! ## The buffers, the slots, the cells -/

abbrev aM : Memref sig .tc .vmem S1024x512 .f32 := Memref.whole cc0_stg0_0
abbrev bM : Memref sig .tc .vmem S512x1024 .f32 := Memref.whole cc0_stg1_0
abbrev oM : Memref sig .tc .vmem S256x1024 .f32 := Memref.whole cc0_stg2_0
abbrev sW : Memref sig .tc .vmem S3x256x1024 .i8 := Memref.whole cc0_scratch0
abbrev rW : Memref sig .tc .vmem S3x256x1024 .i8 := Memref.whole cc0_scratch1

/-- Where slot `k` starts in either three-slot buffer. -/
abbrev off : Fin 3 → Fin 3 → ℕ := fun | 0 => ![0, 0, 0] | 1 => ![1, 0, 0] | 2 => ![2, 0, 0]
theorem off_inb : ∀ (k : Fin 3) a, off k a + S1x256x1024.size a ≤ S3x256x1024.size a := by decide
abbrev slotR (k : Fin 3) : Rect S3x256x1024 := Rect.unit (s := S3x256x1024) (off k) S1x256x1024.size (off_inb k)

/-- Sending slot `k` and landing slot `k`, as the transfers name them. -/
abbrev sM (k : Fin 3) : Memref sig .tc .vmem S256x1024 .i8 := (sW.slice (slotR k) (fun _ => rfl)).squeeze S256x1024 squeezes_S1x256x1024_S256x1024
abbrev rM (k : Fin 3) : Memref sig .tc .vmem S256x1024 .i8 := (rW.slice (slotR k) (fun _ => rfl)).squeeze S256x1024 squeezes_S1x256x1024_S256x1024

abbrev barS : Sem sig := (SemArray.scalar (sig.barrier 0 rfl) : Sems sig S_).sem
/-- The three send and the three receive semaphores. -/
abbrev sendS : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig := fun
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

theorem sendS_val : ∀ k : Fin 3, (sendS k).val = 3 + k.val := by decide
theorem recvS_val : ∀ k : Fin 3, (recvS k).val = 6 + k.val := by decide

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The six semaphores the kernel declares: three send, three receive; -/
abbrev osem : Fin 6 → SemLoc sig := fun
  | 0 => .dma (sendS 0) | 1 => .dma (sendS 1) | 2 => .dma (sendS 2) | 3 => .dma (recvS 0) | 4 => .dma (recvS 1) | 5 => .dma (recvS 2)
/-- all seven of the exchange's: the barrier first. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-- What one slot's transfer counts for. -/
abbrev N : ℕ := (rM 0).view.dmaCredit
theorem N_pos : 0 < N := View.dmaCredit_pos _ (by decide)

/-! ## Contents -/

/-- Device `c`'s block of `A` and of `B`, as staged. -/
def aStg (c : Dev nD) : (cc0_stg0_0 : Ref sig .tc).ty.Contents (Elt F) :=
  (win0_0.blk (0 : Fin 1)).view.read (Elt F) ((s₀ m ρ).mem ((c : Thread nD τ).loc main_arg0))
def bStg (c : Dev nD) : (cc0_stg1_0 : Ref sig .tc).ty.Contents (Elt F) :=
  (win0_1.blk (0 : Fin 1)).view.read (Elt F) ((s₀ m ρ).mem ((c : Thread nD τ).loc main_arg1))

/-- The whole of `B`'s block and the four row chunks of `A`'s block, as the body loads them. -/
abbrev bLd (c : Dev nD) : Vec F S512x1024 .f32 :=
  bM.view.readAt (Elt F) (Rect.unit (s := S512x1024) ![0, 0] S512x1024.size inb_S512x1024_S512x1024_0_0).toLoadRect (bStg m ρ c)
abbrev aLd0 (c : Dev nD) : Vec F S256x512 .f32 :=
  aM.view.readAt (Elt F) (Rect.unit (s := S1024x512) (k0_off1 c 1#32) S256x512.size (k0_off1_inb c 0)).toLoadRect (aStg m ρ c)
abbrev aLd1 (c : Dev nD) : Vec F S256x512 .f32 :=
  aM.view.readAt (Elt F) (Rect.unit (s := S1024x512) (k0_off2 c) S256x512.size (k0_off2_inb c)).toLoadRect (aStg m ρ c)
abbrev aLd2 (c : Dev nD) : Vec F S256x512 .f32 :=
  aM.view.readAt (Elt F) (Rect.unit (s := S1024x512) (k0_off1 c 2#32) S256x512.size (k0_off1_inb c 1)).toLoadRect (aStg m ρ c)
abbrev aLd3 (c : Dev nD) : Vec F S256x512 .f32 :=
  aM.view.readAt (Elt F) (Rect.unit (s := S1024x512) (k0_off3 c) S256x512.size (k0_off3_inb c)).toLoadRect (aStg m ρ c)

/-- The codes device `c` sends to its peer `k`. -/
def code (k : Fin 3) (c : Dev nD) : Vec F S1x256x1024 .i8 :=
  match k with
  | 0 => k0_pay1 (aLd0 m ρ c) (bLd m ρ c)
  | 1 => k0_pay2 (aLd1 m ρ c) (bLd m ρ c)
  | 2 => k0_pay3 (aLd2 m ρ c) (bLd m ρ c)

/-- Device `c`'s block of the result. -/
def outAt (c : Dev nD) : (cc0_stg2_0 : Ref sig .tc).ty.Contents (Elt F) :=
  k0_pay5 (k0_pay4 (aLd3 m ρ c) (bLd m ρ c)) (code m ρ 0 (pr 0 c)) (code m ρ 1 (pr 1 c)) (code m ρ 2 (pr 2 c))

/-- Sending slot `k` of device `c` at contents `f`; landing slot `k`. -/
def sPts (k : Fin 3) (c : Dev nD) (f : Buf (Elt F) ((sM k).view.loc (c : Thread nD τ))) : sProp 𝕄 :=
  (sM k).view.loc (c : Thread nD τ) ↦[(sM k).view.set]{fullShare} f
def rPts (k : Fin 3) (c : Dev nD) (f : Buf (Elt F) ((rM k).view.loc (c : Thread nD τ))) : sProp 𝕄 :=
  (rM k).view.loc (c : Thread nD τ) ↦[(rM k).view.set]{fullShare} f

/-- What a slot reads. -/
abbrev sRd (k : Fin 3) (f : (cc0_scratch0 : Ref sig .tc).ty.Contents (Elt F)) : Vec F S1x256x1024 .i8 := (sW.access (slotR k)).read (Elt F) f
abbrev rRd (k : Fin 3) (f : (cc0_scratch1 : Ref sig .tc).ty.Contents (Elt F)) : Vec F S1x256x1024 .i8 := (rW.access (slotR k)).read (Elt F) f

omit [FloatOps F] in
instance sPts_storable (k : Fin 3) (c : Dev nD) (f) : BI.Storable (upEmb : UEmb _ 𝕄) (sPts (F := F) k c f) := by unfold sPts; infer_instance
omit [FloatOps F] in
instance rPts_storable (k : Fin 3) (c : Dev nD) (f) : BI.Storable (upEmb : UEmb _ 𝕄) (rPts (F := F) k c f) := by unfold rPts; infer_instance

/-- A landing slot written by the transfer reads what the sending slot reads. -/
theorem landed_read (k : Fin 3) (fd : (cc0_scratch1 : Ref sig .tc).ty.Contents (Elt F)) (fs : (cc0_scratch0 : Ref sig .tc).ty.Contents (Elt F)) :
    rRd k ((rM k).view.write (Elt F) fd ((sM k).view.read (Elt F) fs) Finset.univ) = sRd k fs := by
  funext y
  obtain ⟨x, rfl⟩ := (Shape.reshapeEquiv (squeezes_S1x256x1024_S256x1024).numel_eq).surjective y
  exact View.read_write_reshape (v := rW.view.slice (slotR k)) _ fd _ x

/-! ## The schedule -/

/-- Peer `k`'s signal hands `c` that peer's landing slot `k`, and that the peer stands at round 0 of its receive cell `k`. -/
def barPay (k : Fin 3) (c : Dev nD) : sProp 𝕄 := iprop((∃ f, rPts k (pr k c) f) ∗ reached ER (recvCell k (pr k c)) 0)
def recvPay (k : Fin 3) (c : Dev nD) : sProp 𝕄 := iprop(∃ f, ⌜rRd k f = code m ρ k (pr k c)⌝ ∗ rPts k c f)
def sendPay (k : Fin 3) (c : Dev nD) : sProp 𝕄 := iprop(∃ f, sPts k c f)

omit [FloatOps F] in
instance barPay_storable (k : Fin 3) (c : Dev nD) : BI.Storable (upEmb : UEmb _ 𝕄) (barPay (F := F) k c) := by unfold barPay; infer_instance
instance recvPay_storable (k : Fin 3) (c : Dev nD) : BI.Storable (upEmb : UEmb _ 𝕄) (recvPay (F := F) m ρ k c) := by unfold recvPay; infer_instance
omit [FloatOps F] in
instance sendPay_storable (k : Fin 3) (c : Dev nD) : BI.Storable (upEmb : UEmb _ 𝕄) (sendPay (F := F) k c) := by unfold sendPay; infer_instance

/-- What a transfer's end hands over, by the semaphore's number. -/
def dmaPay (c : Dev nD) (n : ℕ) : sProp 𝕄 :=
  match n with
  | 3 => sendPay 0 c | 4 => sendPay 1 c | 5 => sendPay 2 c
  | 6 => recvPay m ρ 0 c | 7 => recvPay m ρ 1 c | 8 => recvPay m ρ 2 c
  | _ => iprop(emp)

def pay (c : Dev nD) (s : SemLoc sig) (d : Fin 3) : sProp 𝕄 :=
  match s with
  | .reg _ => barPay d c
  | .dma q => dmaPay m ρ c q.val

/-- The exchange's duties: three at a barrier cell, one at a send or a receive cell. -/
def dutiesOf (s : SemLoc sig) : Finset (Fin 3) :=
  match s with
  | .reg _ => Finset.univ
  | .dma q => if 3 ≤ q.val then {0} else ∅

def amountOf (s : SemLoc sig) : ℕ :=
  match s with
  | .reg _ => 1
  | .dma _ => N

def rd : Rounds.Schedule (GSem nD τ sig) (Fin 3) 𝕄 where
  duties g r := if r = 0 ∧ g.1.2 = .tc then dutiesOf g.2 else ∅
  unitless _ := False
  amount g _ _ := amountOf g.2
  payload g _ d := pay m ρ g.1.1 g.2 d
  amount_pos g _ _ _ := by
    cases g.2 with
    | reg _ => exact Nat.one_pos
    | dma _ => exact N_pos

instance dmaPay_storable (c : Dev nD) (n : ℕ) : BI.Storable (upEmb : UEmb _ 𝕄) (dmaPay (F := F) m ρ c n) := by
  unfold dmaPay; split <;> infer_instance
instance pay_storable (c : Dev nD) (s : SemLoc sig) (d : Fin 3) : BI.Storable (upEmb : UEmb _ 𝕄) (pay (F := F) m ρ c s d) := by
  unfold pay; split <;> infer_instance
instance rd_payload_storable (g : GSem nD τ sig) (r : ℕ) (d : Fin 3) : BI.Storable (upEmb : UEmb _ 𝕄) ((rd (F := F) m ρ).payload g r d) :=
  pay_storable m ρ g.1.1 g.2 d

section Sched
variable (k : Fin 3) (c : Dev nD)

theorem duties_bar : (rd (F := F) m ρ).duties (barCell c) 0 = Finset.univ := by dsimp only [rd]; exact if_pos ⟨rfl, rfl⟩
theorem duties_send : (rd (F := F) m ρ).duties (sendCell k c) 0 = {0} := by
  dsimp only [rd]; rw [if_pos ⟨rfl, rfl⟩]; dsimp only [dutiesOf]; rw [sendS_val, if_pos (by omega)]
theorem duties_recv : (rd (F := F) m ρ).duties (recvCell k c) 0 = {0} := by
  dsimp only [rd]; rw [if_pos ⟨rfl, rfl⟩]; dsimp only [dutiesOf]; rw [recvS_val, if_pos (by omega)]
theorem duties_later (g : GSem nD τ sig) : ∀ r, 1 ≤ r → (rd (F := F) m ρ).duties g r = ∅ :=
  fun r hr => by dsimp only [rd]; rw [if_neg fun h => by omega]

theorem amount_bar (d : Fin 3) : (rd (F := F) m ρ).amount (barCell c) 0 d = 1 := rfl
theorem amount_send (d : Fin 3) : (rd (F := F) m ρ).amount (sendCell k c) 0 d = N := rfl
theorem amount_recv (d : Fin 3) : (rd (F := F) m ρ).amount (recvCell k c) 0 d = N := rfl

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell k c) 0 = N := by
  unfold Schedule.expect Schedule.amountOf; rw [duties_send, Finset.sum_singleton, amount_send]
theorem expect_recv : (rd (F := F) m ρ).expect (recvCell k c) 0 = N := by
  unfold Schedule.expect Schedule.amountOf; rw [duties_recv, Finset.sum_singleton, amount_recv]

theorem payload_bar (d : Fin 3) : (rd (F := F) m ρ).payload (barCell c) 0 d = barPay d c := rfl
theorem payload_send (d : Fin 3) : (rd (F := F) m ρ).payload (sendCell k c) 0 d = sendPay k c := by
  show dmaPay m ρ c (sendS k).val = _
  rw [sendS_val]; fin_cases k <;> rfl
theorem payload_recv (d : Fin 3) : (rd (F := F) m ρ).payload (recvCell k c) 0 d = recvPay m ρ k c := by
  show dmaPay m ρ c (recvS k).val = _
  rw [recvS_val]; fin_cases k <;> rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((rd (F := F) m ρ).duties (barCell c) 0 \ ∅) (fun d => (rd (F := F) m ρ).payload (barCell c) 0 d)
    = iprop(barPay 0 c ∗ barPay 1 c ∗ barPay 2 c) := by
  rw [Finset.sdiff_empty, duties_bar, bigSep_fin3]; rfl
theorem rest_send : bigSep ((rd (F := F) m ρ).duties (sendCell k c) 0 \ ∅) (fun d => (rd (F := F) m ρ).payload (sendCell k c) 0 d) = sendPay k c := by
  rw [Finset.sdiff_empty, duties_send, bigSep_singleton, payload_send]
theorem rest_recv : bigSep ((rd (F := F) m ρ).duties (recvCell k c) 0 \ ∅) (fun d => (rd (F := F) m ρ).payload (recvCell k c) 0 d) = recvPay m ρ k c := by
  rw [Finset.sdiff_empty, duties_recv, bigSep_singleton, payload_recv]

end Sched

/-! ## What each device owes at launch; the levels -/

/-- The credits owed to the receive cells, the first transfer's last; -/
def R2 (c : Dev nD) : CellTallies nD τ sig Unit := 0 + tallyAt (recvCell 2 (pr 2 c)) () N
def R1 (c : Dev nD) : CellTallies nD τ sig Unit := R2 c + tallyAt (recvCell 1 (pr 1 c)) () N
def R0 (c : Dev nD) : CellTallies nD τ sig Unit := R1 c + tallyAt (recvCell 0 (pr 0 c)) () N
/-- with the units owed to the barriers, the first signal's last. -/
def O₂ (c : Dev nD) : CellTallies nD τ sig Unit := R0 c + tallyAt (barCell (pr 2 c)) () 1
def O₁ (c : Dev nD) : CellTallies nD τ sig Unit := O₂ c + tallyAt (barCell (pr 1 c)) () 1
def O₀ (c : Dev nD) : CellTallies nD τ sig Unit := O₁ c + tallyAt (barCell (pr 0 c)) () 1

def L (g : GSem nD τ sig) : Finset Unit := if g.1.2 = .tc then {()} else ∅
/-- Barriers at 1, receive cells at 2, staging and send cells at 0. -/
def lvS (s : SemLoc sig) : ℕ :=
  match s with
  | .reg _ => 1
  | .dma q => if 6 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 3) (c : Dev nD) (u : Unit) : lv (recvCell k c) u = 2 := by
  show (if 6 ≤ (recvS k).val then 2 else 0) = 2
  rw [recvS_val, if_pos (by omega)]

theorem tally_pos {a g : GSem nD τ sig} {n : ℕ} {u : Unit} (h : 0 < (tallyAt a () n : CellTallies nD τ sig Unit) g u) : g = a := by
  rw [tallyAt_apply] at h
  by_contra hn
  rw [if_neg (fun h' => hn h'.1)] at h
  exact Nat.lt_irrefl 0 h

theorem add_pos_or {O O' : CellTallies nD τ sig Unit} {g : GSem nD τ sig} {u : Unit} (h : 0 < (O + O') g u) : 0 < O g u ∨ 0 < O' g u := by
  rw [Pi.add_apply, Finsupp.add_apply] at h; omega

theorem R0_pos {c : Dev nD} {g : GSem nD τ sig} {u : Unit} (h : 0 < R0 c g u) : ∃ k, g = recvCell k (pr k c) := by
  rcases add_pos_or h with h | h
  · rcases add_pos_or h with h | h
    · rcases add_pos_or h with h | h
      · exact absurd h (Nat.lt_irrefl 0)
      · exact ⟨2, tally_pos h⟩
    · exact ⟨1, tally_pos h⟩
  · exact ⟨0, tally_pos h⟩

theorem O₀_pos {c : Dev nD} {g : GSem nD τ sig} {u : Unit} (h : 0 < O₀ c g u) : (∃ k, g = recvCell k (pr k c)) ∨ ∃ k, g = barCell (pr k c) := by
  rcases add_pos_or h with h | h
  · rcases add_pos_or h with h | h
    · rcases add_pos_or h with h | h
      · exact Or.inl (R0_pos h)
      · exact Or.inr ⟨2, tally_pos h⟩
    · exact Or.inr ⟨1, tally_pos h⟩
  · exact Or.inr ⟨0, tally_pos h⟩

omit [FloatOps F] in
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; show (if 6 ≤ q.val then 2 else 0) ≤ 0; rw [if_neg (by omega)])
      (fun g u hg => by
        rcases O₀_pos hg with ⟨k, rfl⟩ | ⟨k, rfl⟩
        · rw [lv_recv]; decide
        · exact Nat.one_pos)
  · rw [MayWait_zero]; iintro -; iempintro

omit [FloatOps F] in
/-- At its barrier wait a device owes receive credits only, and those are above its barrier. -/
theorem mayWait_bar (c : Dev nD) : (levAts L lv : sProp 𝕄) ⊢ MayWait (c : Thread nD τ) (.reg barS) () (R0 c) :=
  MayOwe.of_cut (L := L) (lev := lv) 1 (fun p hp => by rw [Finset.mem_singleton.mp hp, L_tc]; exact Finset.mem_singleton_self _)
    (fun g u hg => by obtain ⟨k, rfl⟩ := R0_pos hg; exact Finset.mem_singleton_self _)
    (fun p hp => by rw [Finset.mem_singleton.mp hp]; exact le_refl 1)
    (fun g u hg => by obtain ⟨k, rfl⟩ := R0_pos hg; rw [lv_recv]; decide)

end Cert.Exchange

end
-- ==== Proof.Body.lean ====
/-
  The kernel body on one device, run effect by effect over any float values: the three signals, the wait for the three
  peers, the three products quantised, stored and sent, the device's own product, the three landings, the sum, and the
  three sends' ends.

  Every effect that speaks to a peer is one step lemma over the peer's number `k`; the body proof applies each three
  times, in program order.
-/
module

public import proofs.«01_k».proof.Proof.Talk

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- Where the cells of peer `k` stand among the seven. -/
def sI (k : Fin 3) : Fin 7 := ⟨1 + k.val, by omega⟩
def rI (k : Fin 3) : Fin 7 := ⟨4 + k.val, by omega⟩

variable (K : Dev nD × Fin 7 → ℕ)

/-- The invariants device `c` opens when it deals with peer `k`, and the rounds it knows reached there. -/
def known (k : Fin 3) (c : Dev nD) : sProp 𝕄 :=
  iprop(cellInv ER (rd m ρ) (K (pr k c, 0)) (barCell (pr k c)) ∗ cellInv ER (rd m ρ) (K (pr k c, rI k)) (recvCell k (pr k c))
    ∗ cellInv ER (rd m ρ) (K (c, sI k)) (sendCell k c) ∗ cellInv ER (rd m ρ) (K (c, rI k)) (recvCell k c)
    ∗ reached ER (barCell (pr k c)) 0 ∗ reached ER (sendCell k c) 0 ∗ reached ER (recvCell k c) 0)

instance known_persistent (k : Fin 3) (c : Dev nD) : BI.Persistent (known (F := F) m ρ K k c) := by unfold known; infer_instance

/-- Its positions at its own send and receive cell `k`. -/
def posns (k : Fin 3) (c : Dev nD) : sProp 𝕄 := iprop(atPos ER (sendCell k c) 0 ∅ 0 ∗ atPos ER (recvCell k c) 0 ∅ 0)

/-- The duties it will pay towards peer `k`: the peer's barrier, its own send, the peer's receive. -/
def toks (k : Fin 3) (c : Dev nD) : sProp 𝕄 :=
  iprop(dutyTok ER (barCell (pr k c)) 0 k ∗ dutyTok ER (sendCell k c) 0 0 ∗ dutyTok ER (recvCell k (pr k c)) 0 0)

def ghost (c : Dev nD) : sProp 𝕄 :=
  iprop((cellInv ER (rd m ρ) (K (c, 0)) (barCell c) ∗ known m ρ K 0 c ∗ known m ρ K 1 c ∗ known m ρ K 2 c)
    ∗ (atPos ER (barCell c) 0 ∅ 0 ∗ posns 0 c ∗ posns 1 c ∗ posns 2 c) ∗ (toks 0 c ∗ toks 1 c ∗ toks 2 c))

/-- The credits a device starts with. -/
def credits (c : Dev nD) : sProp 𝕄 :=
  iprop(cred (tallyAt (barCell c) () 3)
    ∗ (cred (tallyAt (recvCell 0 c) () N) ∗ cred (tallyAt (recvCell 1 c) () N) ∗ cred (tallyAt (recvCell 2 c) () N)))

def start (c : Dev nD) : sProp 𝕄 := iprop((∃ K, ghost m ρ K c) ∗ credits c ∗ levAts L lv)

/-- The three sending slots, the three landing slots, at some contents. -/
def sAll (c : Dev nD) : sProp 𝕄 := iprop((∃ f, sPts 0 c f) ∗ (∃ f, sPts 1 c f) ∗ (∃ f, sPts 2 c f))
def rAll (c : Dev nD) : sProp 𝕄 := iprop((∃ f, rPts 0 c f) ∗ (∃ f, rPts 1 c f) ∗ (∃ f, rPts 2 c f))

def Φ₀ (c : Dev nD) : sProp 𝕄 := iprop(start m ρ c ∗ sAll c ∗ rAll c)

/-- The seven cells closed, their counters at zero. -/
def zeros (c : Dev nD) : sProp 𝕄 :=
  iprop((semVal (sendCell 0 c) 0 ∗ semVal (sendCell 1 c) 0 ∗ semVal (sendCell 2 c) 0
    ∗ semVal (recvCell 0 c) 0 ∗ semVal (recvCell 1 c) 0 ∗ semVal (recvCell 2 c) 0) ∗ semVal (barCell c) 0)
def Φ₁ (c : Dev nD) : sProp 𝕄 := iprop(sAll c ∗ rAll c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m ρ c
    | ⟨1, _⟩ => bStg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

abbrev t₀ : Fin cfg0.N := t0_0
theorem fin_N (t : Fin cfg0.N) : t = t₀ := fin_N0 t

/-- A buffer of the device, whole, at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-! ## The steps -/

/-- What the device owes, whatever it has waited for. -/
def ow (c : Dev nD) (O : CellTallies nD τ sig Unit) : sProp 𝕄 := iprop(∃ W, owes (c : Thread nD τ) O W)

/-- The program `p` on device `c` reaches `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Telling peer `k` that landing slot `k` is free for it. -/
theorem step_signal {α : Type} (k : Fin 3) (c n : Dev nD) (hn : n = pr k c) (O : CellTallies nD τ sig Unit) (a : ℕ) (ha : a = 1)
    {Q : α → sProp 𝕄} {p : PUnit → Prog (TpuEff nD τ sig (Elt F) Λ₀ .tc) α} :
    iprop(known m ρ K k c ∗ ow c (O + tallyAt (barCell (pr k c)) () 1) ∗ dutyTok ER (barCell (pr k c)) 0 k ∗ (∃ f, rPts k c f))
      ⊢ iprop((ow c O -∗ runs c (p ⟨⟩) Q) -∗ runs c (.op (.semSignal (n : Thread nD τ) barS a) p) Q) := by
  subst hn ha
  unfold known ow
  iintro ⟨⟨#Hbar, -, -, -, #Hrb, -, #Hrr⟩, ⟨%W, HO⟩, Ht, Hslot⟩ Hk
  iapply (Rounds.wp_signal 𝒱₀ ER (rd m ρ) (c : Thread nD τ) none (dst := (pr k c : Thread nD τ)) (κ := K (pr k c, 0))
      (d := k) (by rw [duties_bar]; exact Finset.mem_univ _) (amount_bar m ρ (pr k c) k) () O rfl) $$ [HO Ht Hslot]
  · isplitr; · iexact Hbar
    isplitl [HO]; · iexact HO
    isplitl [Ht]; · iexact Ht
    isplitl [Hslot]
    · rw [payload_bar]; unfold barPay; rw [pr_pr]
      isplitl [Hslot]; · iexact Hslot
      iexact Hrr
    · iexact Hrb
  iintro HO
  iapply Hk
  iexists W; iexact HO

/-- Waiting for the three peers: their landing slots. -/
theorem step_wait {α : Type} (c : Dev nD) (a : ℕ) (ha : a = 3)
    {Q : α → sProp 𝕄} {p : PUnit → Prog (TpuEff nD τ sig (Elt F) Λ₀ .tc) α} :
    iprop(cellInv ER (rd m ρ) (K (c, 0)) (barCell c) ∗ cred (tallyAt (barCell c) () 3) ∗ ow c (R0 c) ∗ levAts L lv ∗ atPos ER (barCell c) 0 ∅ 0)
      ⊢ iprop(((ow c (R0 c) ∗ atPos ER (barCell c) 1 ∅ 0 ∗ barPay 0 c ∗ barPay 1 c ∗ barPay 2 c) -∗ runs c (p ⟨⟩) Q)
          -∗ runs c (.op (.semWait barS a) p) Q) := by
  subst ha
  unfold ow
  iintro ⟨#Hbar, Hc, ⟨%W, HO⟩, #Hlev, Hat⟩ Hk
  iapply (Rounds.wp_wait_rest_token 𝒱₀ ER (rd m ρ) (c : Thread nD τ) none (κ := K (c, 0))
      (wpE_semWait_eq 𝒱₀ (c : Thread nD τ) none Set.univ) (Set.mem_univ _) () (O := R0 c) (W := W) (R := 0) (m := 0) (T := ∅)
      (by rw [expect_bar])) $$ [Hc HO Hat]
  · isplitr; · iexact Hbar
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- Sending peer `k` its codes. -/
theorem step_send {α : Type} (k : Fin 3) (c n : Dev nD) (hn : n = pr k c)
    {hsc : (rM k : Memref sig (Dev.tc n : Thread nD τ).2.kind .vmem S256x1024 .i8).view.ref.isScScratch = false}
    {hsrc : (sM k).view.WordExact} {hdst : (rM k).view.WordExact}
    {hsem : DmaTarget.Typed .vmem (.dma (recvS k)) (.remote (Dev.tc n : Thread nD τ) (rM k : Memref sig .tc .vmem S256x1024 .i8) (.dma (sendS k)) hsc)}
    (fs : (cc0_scratch0 : Ref sig .tc).ty.Contents (Elt F)) (hfs : sRd k fs = code m ρ k c) (O : CellTallies nD τ sig Unit)
    {Q : α → sProp 𝕄} {p : PUnit → Prog (TpuEff nD τ sig (Elt F) Λ₀ .tc) α} :
    iprop(known m ρ K k c ∗ sPts k c fs ∗ barPay k c ∗ ow c (O + tallyAt (recvCell k (pr k c)) () N)
        ∗ dutyTok ER (sendCell k c) 0 0 ∗ dutyTok ER (recvCell k (pr k c)) 0 0)
      ⊢ iprop(((cred (tallyAt (sendCell k c) () N) ∗ ow c O) -∗ runs c (p ⟨⟩) Q)
          -∗ runs c (.op (.enqueueDma (sM k) (.remote (Dev.tc n : Thread nD τ) (rM k) (.dma (sendS k)) hsc) (.dma (recvS k)) hsrc hdst hsem) p) Q) := by
  subst hn
  unfold known ow barPay
  iintro ⟨⟨-, #Hrecv, #Hsend, -, -, #Hrs, -⟩, Hs, ⟨⟨%fd, Hd⟩, #Hrr⟩, ⟨%W, HO⟩, Hts, Htr⟩ Hk
  iapply (Rounds.wp_send_pointsTo 𝒱₀ ER (rd m ρ) (c : Thread nD τ) none (κ₁ := K (c, sI k)) (κ₂ := K (pr k c, rI k))
      (q := fullShare) (fs := fs) (fd := fd) (r₁ := 0) (r₂ := 0) (d₁ := 0) (d₂ := 0)
      (by rw [duties_send]; exact Finset.mem_singleton_self _) (by rw [duties_recv]; exact Finset.mem_singleton_self _)
      () () N rfl (amount_send m ρ k c 0) (amount_recv m ρ k (pr k c) 0) O rfl (W := W)
      (by
        rw [payload_send]; unfold sendPay sPts
        iintro H; iexists fs; iexact H)
      (by
        rw [payload_recv]; unfold recvPay rPts
        iintro H; iexists _
        isplitr
        rotate_left
        · iexact H
        · ipureintro
          rw [landed_read k fd fs, hfs, pr_pr])) $$ [Hs Hd HO Hts Htr]
  · isplitr; · iexact Hsend
    isplitr; · iexact Hrecv
    isplitl [Hs]; · unfold sPts; iexact Hs
    isplitl [Hd]; · unfold rPts; iexact Hd
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- Waiting for peer `k`'s codes to land. -/
theorem step_landed {α : Type} (k : Fin 3) (c : Dev nD) {hsrc : (sM k).view.WordExact} {hdst : (rM k).view.WordExact}
    {Q : α → sProp 𝕄} {p : PUnit → Prog (TpuEff nD τ sig (Elt F) Λ₀ .tc) α} :
    iprop(known m ρ K k c ∗ cred (tallyAt (recvCell k c) () N) ∗ ow c 0 ∗ atPos ER (recvCell k c) 0 ∅ 0)
      ⊢ iprop(((ow c 0 ∗ semVal (recvCell k c) 0 ∗ recvPay m ρ k c) -∗ runs c (p ⟨⟩) Q)
          -∗ runs c (.op (.waitDma2 (recvS k) (sM k) (rM k) hsrc hdst) p) Q) := by
  unfold known ow
  iintro ⟨⟨-, -, -, #Hrecv, -, -, -⟩, Hc, ⟨%W, HO⟩, Hat⟩ Hk
  iapply (Rounds.wp_wait_rest_token 𝒱₀ ER (rd m ρ) (c : Thread nD τ) none (κ := K (c, rI k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact Hrecv
    isplitl [Hc]; · iexact Hc
    isplitl [HO]; · iexact HO
    isplitr; · rw [MayWait_zero]; iempintro
    iexact Hat
  iintro ⟨HO, Hat, -, Hpay⟩
  ihave Hp := (Entails.of_eq (rest_recv m ρ k c)) $$ Hpay
  imod (Rounds.cell_close ER (rd m ρ) (Set.mem_univ (K (c, rI k))) (fun h => h) (R := 0 + 1) (duties_later m ρ (recvCell k c))) $$ [Hat] with Hz
  · isplitr; · iexact Hrecv
    iexact Hat
  iapply Hk
  isplitl [HO]; · iexists _; iexact HO
  isplitl [Hz]; · iexact Hz
  iexact Hp

/-- Waiting for the send to peer `k` to have left. -/
theorem step_sent {α : Type} (k : Fin 3) (c : Dev nD) {hsrc : (rM k).view.WordExact} {hdst : (sM k).view.WordExact}
    {Q : α → sProp 𝕄} {p : PUnit → Prog (TpuEff nD τ sig (Elt F) Λ₀ .tc) α} :
    iprop(known m ρ K k c ∗ cred (tallyAt (sendCell k c) () N) ∗ ow c 0 ∗ atPos ER (sendCell k c) 0 ∅ 0)
      ⊢ iprop(((ow c 0 ∗ semVal (sendCell k c) 0 ∗ (∃ f, sPts k c f)) -∗ runs c (p ⟨⟩) Q)
          -∗ runs c (.op (.waitDma2 (sendS k) (rM k) (sM k) hsrc hdst) p) Q) := by
  unfold known ow
  iintro ⟨⟨-, -, #Hsend, -, -, -, -⟩, Hc, ⟨%W, HO⟩, Hat⟩ Hk
  iapply (Rounds.wp_wait_rest_token 𝒱₀ ER (rd m ρ) (c : Thread nD τ) none (κ := K (c, sI k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact Hsend
    isplitl [Hc]; · iexact Hc
    isplitl [HO]; · iexact HO
    isplitr; · rw [MayWait_zero]; iempintro
    iexact Hat
  iintro ⟨HO, Hat, -, Hpay⟩
  ihave Hp := (Entails.of_eq (rest_send m ρ k c)) $$ Hpay
  imod (Rounds.cell_close ER (rd m ρ) (Set.mem_univ (K (c, sI k))) (fun h => h) (R := 0 + 1) (duties_later m ρ (sendCell k c))) $$ [Hat] with Hz
  · isplitr; · iexact Hsend
    iexact Hat
  iapply Hk
  isplitl [HO]; · iexists _; iexact HO
  isplitl [Hz]; · iexact Hz
  unfold sendPay; iexact Hp

theorem sM_set (k : Fin 3) : (sM k).view.set = (sW.access (slotR k)).set := View.set_reshape _ _
theorem rM_set (k : Fin 3) : (rM k).view.set = (rW.access (slotR k)).set := View.set_reshape _ _

/-- Reading sending slot `k` and not using what it holds. -/
theorem step_peek {α : Type} (k : Fin 3) (c : Dev nD) {hl : (sW : Memref sig .tc .vmem S3x256x1024 .i8).view.LoadsAt (slotR k).toLoadRect}
    {Q : α → sProp 𝕄} {p : Vec F S1x256x1024 .i8 → Prog (TpuEff nD τ sig (Elt F) Λ₀ .tc) α} (f : Buf (Elt F) ((sM k).view.loc (c : Thread nD τ))) :
    sPts k c f ⊢ iprop((∀ w, sPts k c f -∗ runs c (p w) Q) -∗ runs c (.op (.load sW (slotR k).toLoadRect hl) p) Q) := by
  unfold sPts
  iintro Hs Hk
  iapply (wp_load_rect 𝒱₀ (c : Thread nD τ) none Set.univ (m := sW) (r := slotR k) (subset_of_eq (sM_set k).symm)) $$ Hs
  iintro Hs
  iapply Hk; iexact Hs

/-- Reading landing slot `k`. -/
theorem step_read {α : Type} (k : Fin 3) (c : Dev nD) {hl : (rW : Memref sig .tc .vmem S3x256x1024 .i8).view.LoadsAt (slotR k).toLoadRect}
    {Q : α → sProp 𝕄} {p : Vec F S1x256x1024 .i8 → Prog (TpuEff nD τ sig (Elt F) Λ₀ .tc) α} :
    recvPay m ρ k c ⊢ iprop(((∃ f, rPts k c f) -∗ runs c (p (code m ρ k (pr k c))) Q) -∗ runs c (.op (.load rW (slotR k).toLoadRect hl) p) Q) := by
  unfold recvPay rPts
  iintro ⟨%f, %hf, Hs⟩ Hk
  iapply (wp_load_rect 𝒱₀ (c : Thread nD τ) none Set.univ (m := rW) (r := slotR k) (subset_of_eq (rM_set k).symm)) $$ Hs
  rw [← hf]
  iintro Hs
  iapply Hk; iexists f; iexact Hs

/-- Filling sending slot `k`. -/
theorem step_fill {α : Type} (k : Fin 3) (c : Dev nD) (w : Vec F S1x256x1024 .i8) {hx : (sW.access (slotR k)).Stores Finset.univ}
    {hm : (Finset.univ : Finset (slotR k).shape.Idx) = Finset.univ ∨ ∀ a, (slotR k).stride a = 1}
    {Q : α → sProp 𝕄} {p : PUnit → Prog (TpuEff nD τ sig (Elt F) Λ₀ .tc) α} (f : Buf (Elt F) ((sM k).view.loc (c : Thread nD τ))) :
    sPts k c f ⊢ iprop((∀ fs, ⌜sRd k fs = w⌝ -∗ sPts k c fs -∗ runs c (p ⟨⟩) Q) -∗ runs c (.op (.store sW (slotR k) w Finset.univ hx hm) p) Q) := by
  unfold sPts
  iintro Hs Hk
  iapply (wp_store 𝒱₀ (c : Thread nD τ) none Set.univ (m := sW) (r := slotR k) (Mk := Finset.univ) (subset_of_eq (sM_set k).symm)) $$ Hs
  iintro Hs
  iapply Hk $$ [] Hs
  ipureintro
  exact View.read_write_univ _ _

end Cert.Exchange

end
-- ==== Proof.Run.lean ====
/-
  The body of the kernel on one device, from what the launch gives it to its block of the result.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ)

omit [FloatOps F] in
theorem off_zero : (![0, 0] : Fin 2 → ℕ) = fun _ => 0 := funext fun a => by fin_cases a <;> rfl

omit [FloatOps F] in
/-- The result's buffer, overwritten whole. -/
theorem write_out (f w : (cc0_stg2_0 : Ref sig .tc).ty.Contents (Elt F)) :
    (oM.access (Rect.unit (s := S256x1024) ![0, 0] S256x1024.size inb_S256x1024_S256x1024_0_0) : View sig .tc _ _ _).write (Elt F) f w Finset.univ = w :=
  Memref.write_access_unit_zero_univ (Elt F) cc0_stg2_0 off_zero _ f w

/-- What the body starts from. -/
def bodyPre (c : Dev nD) : sProp 𝕄 :=
  iprop((ghost m ρ K c ∗ credits c ∗ levAts L lv) ∗ sAll c ∗ rAll c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it ends with. -/
def bodyPost (c : Dev nD) : sProp 𝕄 :=
  iprop(Φ₁ c ∗ (dats m ρ 0 c).owesAt () t₀.succ
    ∗ stg c cc0_stg0_0 (aStg m ρ c) ∗ stg c cc0_stg1_0 (bStg m ρ c) ∗ stg c cc0_stg2_0 (outAt m ρ c))

set_option maxHeartbeats 4000000 in
set_option maxRecDepth 8000 in
theorem sound_body (c : Dev nD) (Kt : PUnit → sProp 𝕄) :
    iprop(bodyPre m ρ K c ∗ (bodyPost m ρ c -∗ Kt ⟨⟩))
      ⊢ runs c (cc0_body aM (Memref.isWhole_whole _) bM (Memref.isWhole_whole _) oM (Memref.isWhole_whole _) sW (Memref.isWhole_whole _)
          rW (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold runs
  simp only [semSignalWord, semWaitWord, Prog.lift, Prog.bind_op, Prog.bind_ret, Prog.pure_eq_ret, wp_deviceId]
  unfold bodyPre ghost posns toks credits sAll rAll
  iintro ⟨⟨⟨⟨⟨#HIb, #HK0, #HK1, #HK2⟩, ⟨HatB, ⟨HaS0, HaR0⟩, ⟨HaS1, HaR1⟩, ⟨HaS2, HaR2⟩⟩, ⟨HtB0, HtS0, HtR0⟩, ⟨HtB1, HtS1, HtR1⟩, ⟨HtB2, HtS2, HtR2⟩⟩,
      ⟨HcB, HcR0, HcR1, HcR2⟩, #Hlev⟩, ⟨⟨%s0, Hs0⟩, ⟨%s1, Hs1⟩, ⟨%s2, Hs2⟩⟩, ⟨Hr0, Hr1, Hr2⟩, Ho, ⟨%d0, %a, %ha, HA⟩, ⟨%d1, %b, %hb, HB⟩, ⟨%d2, %o, %ho, Hout⟩⟩, Hk⟩
  have ha' : a = aStg m ρ c := by rw [ha]; unfold Dat.before; rw [if_pos (fetch0_0 t₀)]; rfl
  have hb' : b = bStg m ρ c := by rw [hb]; unfold Dat.before; rw [if_pos (fetch0_1 t₀)]; rfl
  subst ha' hb'
  unfold Dat.owesAt Pipeline.owesWithin
  icases Ho with ⟨%W, %hW, HO⟩
  rw [show (dats m ρ 0 c).owed t₀.castSucc = O₀ c from rfl]
  ihave HO : iprop(ow c (O₀ c)) $$ [HO]
  · unfold ow; iexists W; iexact HO
  unfold O₀ O₁ O₂
  iapply (step_signal m ρ K 0 c _ (dev1_eq c) _ _ rfl) $$ [HO HtB0 Hr0]
  · isplitr; · iexact HK0
    isplitl [HO]; · iexact HO
    isplitl [HtB0] <;> iassumption
  iintro HO
  iapply (step_signal m ρ K 1 c _ (dev2_eq c) _ _ rfl) $$ [HO HtB1 Hr1]
  · isplitr; · iexact HK1
    isplitl [HO]; · iexact HO
    isplitl [HtB1] <;> iassumption
  iintro HO
  iapply (step_signal m ρ K 2 c _ (dev3_eq c) _ _ rfl) $$ [HO HtB2 Hr2]
  · isplitr; · iexact HK2
    isplitl [HO]; · iexact HO
    isplitl [HtB2] <;> iassumption
  iintro HO
  iapply (wp_load 𝒱₀ (c : Thread nD τ) none Set.univ (m := aM) (Finset.subset_univ _)) $$ HA; iintro HA
  iapply (wp_load 𝒱₀ (c : Thread nD τ) none Set.univ (m := bM) (Finset.subset_univ _)) $$ HB; iintro HB
  iapply (step_peek 0 c s0) $$ Hs0; iintro %w0 Hs0
  iapply (step_fill 0 c (code m ρ 0 c) s0) $$ Hs0; iintro %f0 %hf0 Hs0
  iapply (step_wait m ρ K c _ rfl) $$ [HcB HO HatB]
  · isplitr; · iexact HIb
    isplitl [HcB]; · iexact HcB
    isplitl [HO]; · iexact HO
    isplitr; · iexact Hlev
    iexact HatB
  iintro ⟨HO, HatB, Hp0, Hp1, Hp2⟩
  unfold R0 R1 R2
  iapply (step_send m ρ K 0 c _ (dev4_eq c) f0 hf0 _) $$ [Hs0 Hp0 HO HtS0 HtR0]
  · isplitr; · iexact HK0
    isplitl [Hs0]; · iexact Hs0
    isplitl [Hp0]; · iexact Hp0
    isplitl [HO]; · iexact HO
    isplitl [HtS0] <;> iassumption
  iintro ⟨HcS0, HO⟩
  iapply (wp_load 𝒱₀ (c : Thread nD τ) none Set.univ (m := aM) (Finset.subset_univ _)) $$ HA; iintro HA
  iapply (wp_load 𝒱₀ (c : Thread nD τ) none Set.univ (m := bM) (Finset.subset_univ _)) $$ HB; iintro HB
  iapply (step_peek 1 c s1) $$ Hs1; iintro %w1 Hs1
  iapply (step_fill 1 c (code m ρ 1 c) s1) $$ Hs1; iintro %f1 %hf1 Hs1
  iapply (step_send m ρ K 1 c _ (dev5_eq c) f1 hf1 _) $$ [Hs1 Hp1 HO HtS1 HtR1]
  · isplitr; · iexact HK1
    isplitl [Hs1]; · iexact Hs1
    isplitl [Hp1]; · iexact Hp1
    isplitl [HO]; · iexact HO
    isplitl [HtS1] <;> iassumption
  iintro ⟨HcS1, HO⟩
  iapply (wp_load 𝒱₀ (c : Thread nD τ) none Set.univ (m := aM) (Finset.subset_univ _)) $$ HA; iintro HA
  iapply (wp_load 𝒱₀ (c : Thread nD τ) none Set.univ (m := bM) (Finset.subset_univ _)) $$ HB; iintro HB
  iapply (step_peek 2 c s2) $$ Hs2; iintro %w2 Hs2
  iapply (step_fill 2 c (code m ρ 2 c) s2) $$ Hs2; iintro %f2 %hf2 Hs2
  iapply (step_send m ρ K 2 c _ (dev6_eq c) f2 hf2 _) $$ [Hs2 Hp2 HO HtS2 HtR2]
  · isplitr; · iexact HK2
    isplitl [Hs2]; · iexact Hs2
    isplitl [Hp2]; · iexact Hp2
    isplitl [HO]; · iexact HO
    isplitl [HtS2] <;> iassumption
  iintro ⟨HcS2, HO⟩
  iapply (wp_load 𝒱₀ (c : Thread nD τ) none Set.univ (m := aM) (Finset.subset_univ _)) $$ HA; iintro HA
  iapply (wp_load 𝒱₀ (c : Thread nD τ) none Set.univ (m := bM) (Finset.subset_univ _)) $$ HB; iintro HB
  iapply (step_landed m ρ K 0 c) $$ [HcR0 HO HaR0]
  · isplitr; · iexact HK0
    isplitl [HcR0]; · iexact HcR0
    isplitl [HO] <;> iassumption
  iintro ⟨HO, HzR0, Hr0⟩
  iapply (step_landed m ρ K 1 c) $$ [HcR1 HO HaR1]
  · isplitr; · iexact HK1
    isplitl [HcR1]; · iexact HcR1
    isplitl [HO] <;> iassumption
  iintro ⟨HO, HzR1, Hr1⟩
  iapply (step_landed m ρ K 2 c) $$ [HcR2 HO HaR2]
  · isplitr; · iexact HK2
    isplitl [HcR2]; · iexact HcR2
    isplitl [HO] <;> iassumption
  iintro ⟨HO, HzR2, Hr2⟩
  iapply (step_read m ρ 0 c) $$ Hr0; iintro Hr0
  iapply (step_read m ρ 1 c) $$ Hr1; iintro Hr1
  iapply (step_read m ρ 2 c) $$ Hr2; iintro Hr2
  iapply (wp_load 𝒱₀ (c : Thread nD τ) none Set.univ (m := oM) (Finset.subset_univ _)) $$ Hout; iintro Hout
  iapply (wp_store 𝒱₀ (c : Thread nD τ) none Set.univ (m := oM)
      (r := Rect.unit (s := S256x1024) ![0, 0] S256x1024.size inb_S256x1024_S256x1024_0_0) (Mk := Finset.univ) (Finset.subset_univ _)) $$ Hout; iintro Hout
  rw [write_out]
  iapply (step_sent m ρ K 0 c) $$ [HcS0 HO HaS0]
  · isplitr; · iexact HK0
    isplitl [HcS0]; · iexact HcS0
    isplitl [HO] <;> iassumption
  iintro ⟨HO, HzS0, Hs0⟩
  iapply (step_sent m ρ K 1 c) $$ [HcS1 HO HaS1]
  · isplitr; · iexact HK1
    isplitl [HcS1]; · iexact HcS1
    isplitl [HO] <;> iassumption
  iintro ⟨HO, HzS1, Hs1⟩
  iapply (step_sent m ρ K 2 c) $$ [HcS2 HO HaS2]
  · isplitr; · iexact HK2
    isplitl [HcS2]; · iexact HcS2
    isplitl [HO] <;> iassumption
  iintro ⟨HO, HzS2, Hs2⟩
  imod (Rounds.cell_close ER (rd m ρ) (Set.mem_univ (K (c, 0))) (fun h => h) (R := 1) (duties_later m ρ (barCell c))) $$ [HatB] with HzB
  · isplitr; · iexact HIb
    iexact HatB
  rw [wp_ret]; imodintro
  iapply Hk
  unfold bodyPost Φ₁ sAll rAll zeros Dat.owesAt Pipeline.owesWithin
  rw [show (dats m ρ 0 c).owed t₀.succ = 0 from rfl]
  isplitl [Hs0 Hs1 Hs2 Hr0 Hr1 Hr2 HzS0 HzS1 HzS2 HzR0 HzR1 HzR2 HzB]
  · isplitl [Hs0 Hs1 Hs2]
    · isplitl [Hs0]; · iexact Hs0
      isplitl [Hs1] <;> iassumption
    isplitl [Hr0 Hr1 Hr2]
    · isplitl [Hr0]; · iexact Hr0
      isplitl [Hr1] <;> iassumption
    isplitr [HzB]
    · isplitl [HzS0]; · iexact HzS0
      isplitl [HzS1]; · iexact HzS1
      isplitl [HzS2]; · iexact HzS2
      isplitl [HzR0]; · iexact HzR0
      isplitl [HzR1] <;> iassumption
    · iexact HzB
  isplitl [HO]
  · unfold ow
    icases HO with ⟨%W', HO⟩
    iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr
  rotate_left
  · iexact Hout
  · ipureintro; rfl

set_option maxRecDepth 8000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 8000 in
/-- The library's obligation for the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_stg]
  show bodyPre' m ρ c ⊢ runs c (cc0_body aM (Memref.isWhole_whole _) bM (Memref.isWhole_whole _) oM (Memref.isWhole_whole _) sW (Memref.isWhole_whole _)
          rW (Memref.isWhole_whole _) cc0_scratch2 cc0_scratch3) (fun _ => bodyPost m ρ c)
  unfold bodyPre' Φ₀ start
  iintro ⟨⟨⟨⟨%K, Hg⟩, Hrest⟩, Hs, Hr⟩, Hmore⟩
  iapply (sound_body m ρ K c fun _ => bodyPost m ρ c)
  unfold bodyPre
  isplitr []
  · isplitl [Hg Hrest]
    · isplitl [Hg] <;> iassumption
    isplitl [Hs]; · iexact Hs
    isplitl [Hr] <;> iassumption
  · iintro H; iexact H

end Cert.Exchange

end
-- ==== Proof.Launch.lean ====
/-
  The launch: the exchange's cells and tokens are made, dealt to the devices that use them, and the four bodies run to the
  end. `run_main` is stated over any float values, so the kernel and its idealization share it.
-/
module

public import proofs.«01_k».proof.Proof.Run
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots of the two scratch buffers -/

theorem slots_disjoint : ∀ j k : Fin 3, j ≠ k → Disjoint (slotR j).set (slotR k).set :=
  Ring.lead_disjoint (s := S3x256x1024) (0 : Fin 3) 1 off S1x256x1024.size off_inb (by decide) rfl
theorem slots_cover : Finset.univ.biUnion (fun k : Fin 3 => (slotR k).set) = Finset.univ :=
  Ring.lead_cover (s := S3x256x1024) (0 : Fin 3) 1 off S1x256x1024.size off_inb (by decide) (by decide) rfl (by decide) rfl

theorem sM_rect (k : Fin 3) : (sM k).view.set = (slotR k).set := (View.set_reshape _ _).trans (View.set_slice_whole _ _)
theorem rM_rect (k : Fin 3) : (rM k).view.set = (slotR k).set := (View.set_reshape _ _).trans (View.set_slice_whole _ _)

omit [FloatOps F] in
theorem sPts_rect (k : Fin 3) (c : Dev nD) (f : Buf (Elt F) ((c : Thread nD τ).loc cc0_scratch0)) :
    (sPts k c f : sProp 𝕄) = (((c : Thread nD τ).loc cc0_scratch0) ↦[(slotR k).set]{fullShare} f) := by
  unfold sPts; rw [sM_rect]
omit [FloatOps F] in
theorem rPts_rect (k : Fin 3) (c : Dev nD) (f : Buf (Elt F) ((c : Thread nD τ).loc cc0_scratch1)) :
    (rPts k c f : sProp 𝕄) = (((c : Thread nD τ).loc cc0_scratch1) ↦[(slotR k).set]{fullShare} f) := by
  unfold rPts; rw [rM_rect]

omit [FloatOps F] in
theorem s_cut (c : Dev nD) (f : Buf (Elt F) ((c : Thread nD τ).loc cc0_scratch0)) :
    (((c : Thread nD τ).loc cc0_scratch0) ↦{fullShare} f : sProp 𝕄) ⊢ sAll c := by
  rw [Ring.pointsTo_blocks (ℓ := (c : Thread nD τ).loc cc0_scratch0) (fun k : Fin 3 => (slotR k).set) slots_disjoint slots_cover f, bigSep_fin3]
  rw [← sPts_rect 0, ← sPts_rect 1, ← sPts_rect 2]
  unfold sAll
  iintro ⟨H0, H1, H2⟩
  isplitl [H0]; · iexists f; iexact H0
  isplitl [H1]; · iexists f; iexact H1
  iexists f; iexact H2

omit [FloatOps F] in
theorem r_cut (c : Dev nD) (f : Buf (Elt F) ((c : Thread nD τ).loc cc0_scratch1)) :
    (((c : Thread nD τ).loc cc0_scratch1) ↦{fullShare} f : sProp 𝕄) ⊢ rAll c := by
  rw [Ring.pointsTo_blocks (ℓ := (c : Thread nD τ).loc cc0_scratch1) (fun k : Fin 3 => (slotR k).set) slots_disjoint slots_cover f, bigSep_fin3]
  rw [← rPts_rect 0, ← rPts_rect 1, ← rPts_rect 2]
  unfold rAll
  iintro ⟨H0, H1, H2⟩
  isplitl [H0]; · iexists f; iexact H0
  isplitl [H1]; · iexists f; iexact H1
  iexists f; iexact H2

theorem s_glue (c : Dev nD) : (sAll c : sProp 𝕄) ⊢ iprop(∃ f : Buf (Elt F) ((c : Thread nD τ).loc cc0_scratch0), ((c : Thread nD τ).loc cc0_scratch0) ↦{fullShare} f) := by
  have h := Ring.pointsTo_blocks_join_exists (Ix := Unit) (Name := ℕ) (U := UU) (Lvl := ℕ) (Val := Elt F) (q := fullShare) (ℓ := (c : Thread nD τ).loc cc0_scratch0)
    (fun k : Fin 3 => (slotR k).set) slots_disjoint slots_cover (fun _ => (0 : BitVec 8))
  rw [bigSep_fin3] at h
  refine .trans ?_ h
  unfold sAll
  simp only [sPts_rect]
  exact BI.Entails.refl _

theorem r_glue (c : Dev nD) : (rAll c : sProp 𝕄) ⊢ iprop(∃ f : Buf (Elt F) ((c : Thread nD τ).loc cc0_scratch1), ((c : Thread nD τ).loc cc0_scratch1) ↦{fullShare} f) := by
  have h := Ring.pointsTo_blocks_join_exists (Ix := Unit) (Name := ℕ) (U := UU) (Lvl := ℕ) (Val := Elt F) (q := fullShare) (ℓ := (c : Thread nD τ).loc cc0_scratch1)
    (fun k : Fin 3 => (slotR k).set) slots_disjoint slots_cover (fun _ => (0 : BitVec 8))
  rw [bigSep_fin3] at h
  refine .trans ?_ h
  unfold rAll
  simp only [rPts_rect]
  exact BI.Entails.refl _

/-! ## The cells and the tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]
def cells : Finset (GSem nD τ sig) := Finset.univ.map ⟨kcell, kcell_injective⟩

/-- The tokens of a device's own cells: for each peer number, the barrier's, the send cell's, the receive cell's. -/
def tokOf (x : (Dev nD × Fin 3) × Fin 3) : GSem nD τ sig × ℕ × Fin 3 :=
  match x.2 with
  | 0 => (barCell x.1.1, 0, x.1.2)
  | 1 => (sendCell x.1.2 x.1.1, 0, 0)
  | 2 => (recvCell x.1.2 x.1.1, 0, 0)

theorem sendS_injective : Function.Injective sendS := by decide
theorem recvS_injective : Function.Injective recvS := by decide
theorem send_ne_recv : ∀ j k : Fin 3, sendS j ≠ recvS k := by decide
theorem recv_ne_bar (k : Fin 3) : (SemLoc.dma (recvS k) : SemLoc sig) ≠ SemLoc.reg barS := fun h => by cases h

theorem reg_ne_dma (s : Sem sig) (q : DmaSem sig) : (SemLoc.reg s : SemLoc sig) ≠ SemLoc.dma q := fun h => by cases h

theorem tokOf_injective : Function.Injective tokOf := by
  rintro ⟨⟨c, k⟩, j⟩ ⟨⟨c', k'⟩, j'⟩ h
  have hc : c = c' := by
    have := congrArg (fun x : GSem nD τ sig × ℕ × Fin 3 => x.1.1.1) h
    fin_cases j <;> fin_cases j' <;> exact this
  subst hc
  have h2 := congrArg (fun x : GSem nD τ sig × ℕ × Fin 3 => x.1.2) h
  have h3 := congrArg (fun x : GSem nD τ sig × ℕ × Fin 3 => x.2.2) h
  fin_cases j <;> fin_cases j'
  · have : k = k' := h3
    rw [this]
  · exact absurd h2 (reg_ne_dma _ _)
  · exact absurd h2 (reg_ne_dma _ _)
  · exact absurd h2.symm (reg_ne_dma _ _)
  · have : k = k' := sendS_injective (SemLoc.dma.inj h2)
    rw [this]
  · exact absurd (SemLoc.dma.inj h2) (send_ne_recv k k')
  · exact absurd h2.symm (reg_ne_dma _ _)
  · exact absurd (SemLoc.dma.inj h2).symm (send_ne_recv k' k)
  · have : k = k' := recvS_injective (SemLoc.dma.inj h2)
    rw [this]
def minted : Finset (GSem nD τ sig × ℕ × Fin 3) := Finset.univ.map ⟨tokOf, tokOf_injective⟩

def u₀ : UU := (initOf (Pipeline.cells cfgs cellOf_inj) (Pipeline.launchToks cfgs cellOf_inj), initOf cells minted)

/-- The tokens of device `c`'s own cells that concern peer `k`. -/
def ownToks (ck : Dev nD × Fin 3) : sProp 𝕄 :=
  iprop(dutyTok ER (barCell ck.1) 0 ck.2 ∗ dutyTok ER (sendCell ck.2 ck.1) 0 0 ∗ dutyTok ER (recvCell ck.2 ck.1) 0 0)

/-- What the launch deals device `c`; -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0))
    ∗ bigSep Finset.univ fun k : Fin 3 => ownToks (c, k))
/-- what it becomes. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_exchange : BI.own (ER (initOf cells minted)) ⊢ (|==> bigSep Finset.univ (G m ρ) : sProp 𝕄) := by
  have hX (Φ : GSem nD τ sig → sProp 𝕄) : bigSep cells Φ = bigSep Finset.univ fun c : Dev nD => bigSep Finset.univ fun k : Fin 7 => Φ (kcell (c, k)) := by
    unfold cells; rw [bigSep_map, bigSep_univ_prod]; rfl
  have hT : bigSep minted (fun x => (dutyTok ER x.1 x.2.1 x.2.2 : sProp 𝕄)) = bigSep Finset.univ fun c : Dev nD => bigSep Finset.univ fun k : Fin 3 => ownToks (c, k) := by
    unfold minted; rw [bigSep_map, bigSep_univ_prod, bigSep_univ_prod]
    exact bigSep_congr fun c _ => bigSep_congr fun k _ => by unfold ownToks; rw [bigSep_fin3]; rfl
  iintro HX
  imod (Rounds.fund ER (rd m ρ) cells minted) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨Ho, Hb⟩
  isplitl [Hb] <;> iassumption

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (rd m ρ) κ (kcell (c, k))))
          ∗ (bigSep Finset.univ fun k : Fin 7 => iprop(atPos ER (kcell (c, k)) 0 ∅ 0 ∗ reached ER (kcell (c, k)) 0))
          ∗ bigSep Finset.univ fun k : Fin 3 => ownToks (c, k)) := by
  unfold G
  iintro ⟨Hos, Hus, Hst, Hat, Htok⟩
  ihave Hv := (sems0_intro (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat] <;> iassumption

def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records (F := F) m ρ K) := by unfold records; infer_instance

theorem kcell_send (k : Fin 3) (c : Dev nD) : kcell (c, sI k) = sendCell k c := by fin_cases k <;> rfl
theorem kcell_recv (k : Fin 3) (c : Dev nD) : kcell (c, rI k) = recvCell k c := by fin_cases k <;> rfl

theorem inv_at (K : Dev nD × Fin 7 → ℕ) (ck : Dev nD × Fin 7) (g : GSem nD τ sig) (hg : kcell ck = g) :
    (records m ρ K : sProp 𝕄) ⊢ cellInv ER (rd m ρ) (K ck) g := by
  subst hg; unfold records
  have h : (bigSep Finset.univ fun ck : Dev nD × Fin 7 => (cellInv ER (rd m ρ) (K ck) (kcell ck) : sProp 𝕄)) ⊢ cellInv ER (rd m ρ) (K ck) (kcell ck) :=
    bigSep_elim (Finset.mem_univ ck)
  iintro ⟨H, -⟩
  iapply h; iexact H
theorem reached_at (K : Dev nD × Fin 7 → ℕ) (ck : Dev nD × Fin 7) (g : GSem nD τ sig) (hg : kcell ck = g) :
    (records m ρ K : sProp 𝕄) ⊢ reached ER g 0 := by
  subst hg; unfold records
  have h : (bigSep Finset.univ fun ck : Dev nD × Fin 7 => (reached ER (kcell ck) 0 : sProp 𝕄)) ⊢ reached ER (kcell ck) 0 := bigSep_elim (Finset.mem_univ ck)
  iintro ⟨-, H⟩
  iapply h; iexact H

theorem known_intro (K : Dev nD × Fin 7 → ℕ) (k : Fin 3) (c : Dev nD) : records m ρ K ⊢ known m ρ K k c := by
  unfold known
  iintro #H
  isplitr; · iapply (inv_at m ρ K (pr k c, 0) _ rfl); iexact H
  isplitr; · iapply (inv_at m ρ K (pr k c, rI k) _ (kcell_recv k _)); iexact H
  isplitr; · iapply (inv_at m ρ K (c, sI k) _ (kcell_send k c)); iexact H
  isplitr; · iapply (inv_at m ρ K (c, rI k) _ (kcell_recv k c)); iexact H
  isplitr; · iapply (reached_at m ρ K (pr k c, 0) _ rfl); iexact H
  isplitr; · iapply (reached_at m ρ K (c, sI k) _ (kcell_send k c)); iexact H
  iapply (reached_at m ρ K (c, rI k) _ (kcell_recv k c)); iexact H

/-- What stays with one device: its positions and the tokens of the duties it pays. -/
def linear (c : Dev nD) : sProp 𝕄 :=
  iprop((bigSep Finset.univ fun k : Fin 7 => atPos ER (kcell (c, k)) 0 ∅ 0) ∗ bigSep Finset.univ fun k : Fin 3 => toks k c)

theorem ghost_intro (K : Dev nD × Fin 7 → ℕ) (c : Dev nD) : iprop(records m ρ K ∗ linear c) ⊢ G' m ρ c := by
  unfold linear G' ghost posns
  rw [bigSep_fin7, bigSep_fin3]
  iintro ⟨#H, ⟨HB, HS0, HS1, HS2, HR0, HR1, HR2⟩, Ht⟩
  iexists K
  isplitr
  · isplitr; · iapply (inv_at m ρ K (c, 0) _ rfl); iexact H
    isplitr; · iapply (known_intro m ρ K 0 c); iexact H
    isplitr; · iapply (known_intro m ρ K 1 c); iexact H
    iapply (known_intro m ρ K 2 c); iexact H
  isplitr [Ht]
  · isplitl [HB]; · iexact HB
    isplitl [HS0 HR0]
    · isplitl [HS0] <;> iassumption
    isplitl [HS1 HR1]
    · isplitl [HS1] <;> iassumption
    isplitl [HS2] <;> iassumption
  iexact Ht

/-- A device and a peer's number against that peer and the same number. -/
def across : (Dev nD × Fin 3) ≃ (Dev nD × Fin 3) :=
  ⟨fun ck => (pr ck.2 ck.1, ck.2), fun ck => (pr ck.2 ck.1, ck.2), fun ck => by simp only [pr_pr], fun ck => by simp only [pr_pr]⟩

omit [FloatOps F] in
/-- The barrier and the receive tokens change hands. -/
theorem toks_across : (bigSep Finset.univ fun c : Dev nD => bigSep Finset.univ fun k : Fin 3 => (ownToks (c, k) : sProp 𝕄))
    ⊢ bigSep Finset.univ fun c : Dev nD => bigSep Finset.univ fun k : Fin 3 => toks k c := by
  rw [← bigSep_univ_prod (fun ck : Dev nD × Fin 3 => (ownToks ck : sProp 𝕄)), ← bigSep_univ_prod (fun ck : Dev nD × Fin 3 => (toks ck.2 ck.1 : sProp 𝕄))]
  unfold ownToks toks
  rw [bigSep_sep', bigSep_sep', bigSep_sep', bigSep_sep',
    bigSep_univ_equiv across (fun ck : Dev nD × Fin 3 => (dutyTok ER (barCell ck.1) 0 ck.2 : sProp 𝕄)),
    bigSep_univ_equiv across (fun ck : Dev nD × Fin 3 => (dutyTok ER (recvCell ck.2 ck.1) 0 0 : sProp 𝕄))]
  exact Entails.of_eq rfl

omit [FloatOps F] in
theorem bigSep_sharing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 7 => iprop(∃ κ : ℕ, cellInv ER (rd m ρ) κ (kcell (c, k))))
          ∗ (bigSep Finset.univ fun k : Fin 7 => iprop(atPos ER (kcell (c, k)) 0 ∅ 0 ∗ reached ER (kcell (c, k)) 0))
          ∗ bigSep Finset.univ fun k : Fin 3 => ownToks (c, k)) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_across (F := F)) $$ Htok
  iapply (bigSep_sharing (R := records m ρ K) fun c _ => ghost_intro m ρ K c)
  isplitr
  · unfold records; isplitl; · iexact HI
    iexact HR
  · iapply (Entails.of_eq (bigSep_sep' Finset.univ (fun c : Dev nD => bigSep Finset.univ fun k : Fin 7 => (atPos ER (kcell (c, k)) 0 ∅ 0 : sProp 𝕄))
      (fun c : Dev nD => bigSep Finset.univ fun k : Fin 3 => toks k c)).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem tally_bar (k : Fin 3) (d c : Dev nD) :
    (tallyAt (barCell (pr k d)) () 1 : CellTallies nD τ sig Unit) (barCell c) () = if d = pr k c then 1 else 0 := by
  rw [tallyAt_apply]
  by_cases h : d = pr k c
  · subst h; rw [pr_pr, if_pos ⟨rfl, rfl⟩, if_pos rfl]
  · rw [if_neg h, if_neg fun h' => h ((pr_eq_iff k c d).mp (congrArg (fun g : GSem nD τ sig => g.1.1) h'.1))]

theorem tally_recv (j k : Fin 3) (d c : Dev nD) :
    (tallyAt (recvCell j (pr j d)) () N : CellTallies nD τ sig Unit) (recvCell k c) () = if j = k then (if d = pr k c then N else 0) else 0 := by
  rw [tallyAt_apply]
  by_cases hj : j = k
  · subst hj
    rw [if_pos rfl]
    by_cases h : d = pr j c
    · subst h; rw [pr_pr, if_pos ⟨rfl, rfl⟩, if_pos rfl]
    · rw [if_neg h, if_neg fun h' => h ((pr_eq_iff j c d).mp (congrArg (fun g : GSem nD τ sig => g.1.1) h'.1))]
  · rw [if_neg hj, if_neg fun h' => hj (recvS_injective (SemLoc.dma.inj (congrArg Prod.snd h'.1))).symm]

theorem tally_recv_bar (j : Fin 3) (d c : Dev nD) : (tallyAt (recvCell j (pr j d)) () N : CellTallies nD τ sig Unit) (barCell c) () = 0 := by
  rw [tallyAt_apply, if_neg fun h' => recv_ne_bar j (congrArg Prod.snd h'.1).symm]
theorem tally_bar_recv (j k : Fin 3) (d c : Dev nD) : (tallyAt (barCell (pr j d)) () 1 : CellTallies nD τ sig Unit) (recvCell k c) () = 0 := by
  rw [tallyAt_apply, if_neg fun h' => recv_ne_bar k (congrArg Prod.snd h'.1)]

theorem owed_bar (d c : Dev nD) : O₀ d (barCell c) () = (if d = pr 2 c then 1 else 0) + (if d = pr 1 c then 1 else 0) + (if d = pr 0 c then 1 else 0) := by
  unfold O₀ O₁ O₂ R0 R1 R2
  simp only [Pi.add_apply, Finsupp.add_apply, Pi.zero_apply, Finsupp.zero_apply, Nat.zero_add]
  rw [tally_recv_bar 0 d c, tally_recv_bar 1 d c, tally_recv_bar 2 d c, tally_bar 0 d c, tally_bar 1 d c, tally_bar 2 d c]
  simp only [Nat.zero_add]

theorem owed_recv (k : Fin 3) (d c : Dev nD) : O₀ d (recvCell k c) () = if d = pr k c then N else 0 := by
  unfold O₀ O₁ O₂ R0 R1 R2
  simp only [Pi.add_apply, Finsupp.add_apply, Pi.zero_apply, Finsupp.zero_apply, Nat.zero_add]
  rw [tally_recv 0 k d c, tally_recv 1 k d c, tally_recv 2 k d c, tally_bar_recv 0 k d c, tally_bar_recv 1 k d c, tally_bar_recv 2 k d c]
  generalize (if d = pr k c then N else 0) = x
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq' Finset.univ (pr k c) fun _ => N,
    if_pos (Finset.mem_univ _)]

omit [FloatOps F] in
/-- Four of the launch's credits, by semaphore. -/
theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv 0 c, ← launch_recv 1 c, ← launch_recv 2 c]
  have h0 : SemLoc.dma (recvS 0) ∈ (Finset.univ : Finset (SemLoc sig)).erase (SemLoc.reg barS) := Finset.mem_erase.mpr ⟨recv_ne_bar 0, Finset.mem_univ _⟩
  have h1 : SemLoc.dma (recvS 1) ∈ ((Finset.univ : Finset (SemLoc sig)).erase (SemLoc.reg barS)).erase (SemLoc.dma (recvS 0)) :=
    Finset.mem_erase.mpr ⟨by decide, Finset.mem_erase.mpr ⟨recv_ne_bar 1, Finset.mem_univ _⟩⟩
  have h2 : SemLoc.dma (recvS 2) ∈ (((Finset.univ : Finset (SemLoc sig)).erase (SemLoc.reg barS)).erase (SemLoc.dma (recvS 0))).erase (SemLoc.dma (recvS 1)) :=
    Finset.mem_erase.mpr ⟨by decide, Finset.mem_erase.mpr ⟨by decide, Finset.mem_erase.mpr ⟨recv_ne_bar 2, Finset.mem_univ _⟩⟩⟩
  rw [bigSep_erase h0, bigSep_erase h1]
  exact sep_mono_right (sep_mono_right (bigSep_elim h2))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iapply (s_cut c f); iexact Hf
  · iapply (r_cut c g); iexact Hg

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros
  iintro ⟨Hs, Hr, Hz, HzB⟩
  isplitl [HzB]; · iexact HzB
  isplitl [Hz]; · iexact Hz
  isplitl [Hs]
  · iapply (s_glue c); iexact Hs
  · iapply (r_glue c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array on device `c` after the run. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Any fair run of the four devices ends, with the windows' arrays at their final contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments are left as they were. -/
theorem final_arg0 (c : Dev nD) : finalA m ρ c (0 : Fin 3) = (s₀ m ρ).mem (win0_0.arr.view.loc (c : Thread nD τ)) :=
  (dats (F := F) m ρ 0 c).arrAt_in (0 : Fin 3) rfl _
theorem final_arg1 (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Codes.lean ====
/-
  The quantiser on extended reals. A partial product `z` is scaled, clipped to [-127, 127] and rounded to the nearest
  integer, ties to even (`rounded`); the kernel keeps the integer in one signed byte, the reference converts it to 32 bits
  and drops the upper 24. The two bytes are the same (`code_eq`): the clipped value is an integer of absolute value at most
  127 whatever `z` is, an infinity included, so that neither conversion meets its bounds.
-/
module

public import Idealize.ShloMosaic.PureOps.Ideal
public import Idealize.ShloMosaic.Lib.IdealHost

@[expose] public section

noncomputable section

namespace Cert.Exchange

open Idealize.ShloMosaic

/-- The scale that takes the clip threshold to 127. -/
def scaleUp : EReal := Ideal.ofBits .f32 0x3F8FAF21#32
/-- The scale that takes 127 back to the clip threshold. -/
def scaleDown : EReal := Ideal.ofBits .f32 0x3F640E4D#32

theorem hi_eq : Ideal.ofBits .f32 0x42FE0000#32 = ((127 : ℝ) : EReal) := by
  simp [Ideal.ofBits, Ideal.ieee, -EReal.coe_mul, -EReal.coe_neg]; norm_num
theorem lo_eq : Ideal.ofBits .f32 0xC2FE0000#32 = ((-127 : ℝ) : EReal) := by
  simp [Ideal.ofBits, Ideal.ieee, -EReal.coe_mul, -EReal.coe_neg]; norm_num

/-- A partial product scaled, clipped and rounded. -/
def rounded (z : EReal) : EReal :=
  Ideal.liftRound Ideal.roundHalfEven
    (min (Ideal.ofBits .f32 0x42FE0000#32) (max (Ideal.ofBits .f32 0xC2FE0000#32) (z * scaleUp)))

/-- The byte a device sends for the partial product `z`. -/
def code8 (z : EReal) : BitVec 8 := Ideal.fptosi 8 (rounded z)

/-- That byte as a number. -/
def codeVal (z : EReal) : EReal := (((code8 z).toInt : ℝ) : EReal)

/-- Rounding to nearest keeps a real of [-127, 127] between the same two integers. -/
theorem roundHalfEven_mem {r : ℝ} (h1 : -127 ≤ r) (h2 : r ≤ 127) :
    -127 ≤ Ideal.roundHalfEven r ∧ Ideal.roundHalfEven r ≤ 127 := by
  have f1 : (-127 : ℤ) ≤ ⌊r⌋ := Int.le_floor.2 (by exact_mod_cast h1)
  have f2 : ⌊r⌋ ≤ (127 : ℤ) := by
    have := Int.floor_le_floor h2
    simpa using this
  by_cases h : ⌊r⌋ = 127
  · have hr : r = 127 := le_antisymm h2 (by have := Int.floor_le r; rw [h] at this; exact_mod_cast this)
    subst hr
    have : Ideal.roundHalfEven (127 : ℝ) = 127 := by
      unfold Ideal.roundHalfEven
      norm_num
    rw [this]; constructor <;> norm_num
  · have f3 : ⌊r⌋ ≤ 126 := by omega
    unfold Ideal.roundHalfEven
    dsimp only
    split_ifs <;> omega

/-- A scaled, clipped and rounded value is an integer of [-127, 127]. -/
theorem rounded_int (z : EReal) : ∃ k : ℤ, -127 ≤ k ∧ k ≤ 127 ∧ rounded z = ((k : ℝ) : EReal) := by
  unfold rounded
  rw [hi_eq, lo_eq]
  generalize z * scaleUp = y
  have hlo : ((-127 : ℝ) : EReal) ≤ min ((127 : ℝ) : EReal) (max ((-127 : ℝ) : EReal) y) :=
    le_min (by exact_mod_cast (by norm_num : (-127 : ℝ) ≤ 127)) (le_max_left _ _)
  have hhi : min ((127 : ℝ) : EReal) (max ((-127 : ℝ) : EReal) y) ≤ ((127 : ℝ) : EReal) := min_le_left _ _
  generalize min ((127 : ℝ) : EReal) (max ((-127 : ℝ) : EReal) y) = x at hlo hhi ⊢
  induction x using EReal.rec with
  | bot => exact absurd hlo (not_le.2 (EReal.bot_lt_coe _))
  | top => exact absurd hhi (not_le.2 (EReal.coe_lt_top _))
  | coe r =>
    have hm := roundHalfEven_mem (r := r) (by exact_mod_cast hlo) (by exact_mod_cast hhi)
    exact ⟨Ideal.roundHalfEven r, hm.1, hm.2, Ideal.liftRound_coe _ _⟩

/-- The conversion of a small integer to `w` bits is its word. -/
theorem fptosi_int (w : Nat) {k : ℤ} (h1 : -(2 ^ (w - 1) : Nat) ≤ k) (h2 : k ≤ (2 ^ (w - 1) : Nat) - 1) :
    Ideal.fptosi w ((k : ℝ) : EReal) = BitVec.ofInt w k := by
  unfold Ideal.fptosi
  rw [Ideal.toIntClamped_coe, Int.floor_intCast, Int.ceil_intCast, ite_self, min_eq_right h2, max_eq_right h1]

/-- The byte's number is the rounded value. -/
theorem codeVal_eq (z : EReal) : codeVal z = rounded z := by
  obtain ⟨k, h1, h2, hk⟩ := rounded_int z
  unfold codeVal code8
  rw [hk, fptosi_int 8 (by norm_num; omega) (by norm_num; omega)]
  have : (BitVec.ofInt 8 k).toInt = k := by
    rw [BitVec.toInt_ofInt]
    exact Int.bmod_eq_of_le (by norm_num; omega) (by norm_num; omega)
  rw [this]

/-- Converted to 32 bits, cut to the low byte and widened again, the rounded value has the same number. -/
theorem wide_eq (z : EReal) :
    (((((Ideal.fptosi 32 (rounded z)).setWidth 8).signExtend 32).toInt : ℝ) : EReal) = codeVal z := by
  obtain ⟨k, h1, h2, hk⟩ := rounded_int z
  rw [codeVal_eq, hk, fptosi_int 32 (by norm_num; omega) (by norm_num; omega)]
  have : (((BitVec.ofInt 32 k).setWidth 8).signExtend 32).toInt = k := by
    rw [BitVec.toInt_signExtend_of_le (by norm_num), BitVec.toInt_setWidth]
    rw [BitVec.toNat_ofInt]
    simp only [Int.bmod]
    omega
  rw [this]

end Cert.Exchange

end
-- ==== Proof.Value.lean ====
/-
  The reference's result, element by element. Row `R` of the result belongs to device `R / 256`; the reference adds the
  partial product of that device as it is and the other three quantised (Proof/Codes.lean), each device's partial product
  being a product over its 512 of the 2048 inner positions (`partialAt`). `refOut_apply` reads the element at row `R` and
  column `l` of the reference's composed term as such a sum over the four devices in order, with the device's own term
  masked out of the quantised sum and the three others out of the exact one.
-/
module

public import proofs.«01_k».proof.Proof.Codes
public import proofs.«01_k».proof.Proof.Gen.ReferenceIdeal.Run
public import Idealize.ShloMosaic.Lib.Pointwise.Tactic
public import Idealize.ShloMosaic.Lib.Pointwise.Contract

@[expose] public section

noncomputable section

namespace Cert.Exchange.Ref

open Cert.ReferenceIdeal Cert.ReferenceIdeal.Gen
open Idealize.ShloMosaic Idealize.ShloMosaic.TcCoe

/-- The element at row `R` and column `l` of the partial product over inner positions `512 d … 512 d + 511`. -/
def partialAt (A : FVec Ideal S1024x2048 .f32) (B : FVec Ideal S2048x1024 .f32) (d : Fin 4) (R : Fin 1024) (l : Fin 1024) : EReal :=
  ∑ k : Fin 512, A (ix2 R ⟨512 * d.val + k.val, by omega⟩) * B (ix2 ⟨512 * d.val + k.val, by omega⟩ l)

/-- The sign of a word: 0, -1 or 1. -/
def signWord (x : BitVec 32) : BitVec 32 := if x = 0 then 0 else if x.msb then -1 else 1

/-- Row `x` over 256, rounded down, as the reference computes it on 32-bit words. -/
def ownerWord (x : BitVec 32) : BitVec 32 :=
  Scalar.select
    (IntOp.andi (IntOp.cmpi .ne (signWord x) (signWord 256#32))
      (IntOp.cmpi .ne (IntOp.remsi .host x 256#32) 0#32))
    (IntOp.subi (IntOp.divsi .host x 256#32) 1#32) (IntOp.divsi .host x 256#32)

/-- Rows are small positive words: the division rounds down and needs no correction. -/
theorem ownerWord_eq : ∀ r : Fin 1024, ownerWord (BitVec.ofNat 32 r.val) = BitVec.ofNat 32 (r.val / 256) := by
  decide +kernel

/-- The reference's array of owners. -/
def owner : IVec S1024x1024 32 :=
  select (andi (cmpi .ne (signi (iotaInDim S1024x1024 32 0)) (broadcastInDim S1024x1024 ![] bcast_S_S1024x1024 (signi (id (constantI S_ 32 256#32)))))
      (cmpi .ne (Host.remsi (iotaInDim S1024x1024 32 0) (broadcastInDim S1024x1024 ![] bcast_S_S1024x1024 (id (constantI S_ 32 256#32)))) (broadcastInDim S1024x1024 ![] bcast_S_S1024x1024 (constantI S_ 32 0#32))))
    (subi (Host.divsi (iotaInDim S1024x1024 32 0) (broadcastInDim S1024x1024 ![] bcast_S_S1024x1024 (id (constantI S_ 32 256#32)))) (broadcastInDim S1024x1024 ![] bcast_S_S1024x1024 (constantI S_ 32 1#32)))
    (Host.divsi (iotaInDim S1024x1024 32 0) (broadcastInDim S1024x1024 ![] bcast_S_S1024x1024 (id (constantI S_ 32 256#32))))

theorem owner_apply (R l : Fin 1024) : owner (ix2 R l) = BitVec.ofNat 32 (R.val / 256) :=
  (show owner (ix2 R l) = ownerWord (BitVec.ofNat 32 R.val) from rfl).trans (ownerWord_eq R)

/-- Where the reference's row belongs to device `w`. -/
def mine (w : BitVec 32) : IVec S1024x1024 1 :=
  cmpi .eq owner (broadcastInDim S1024x1024 ![] bcast_S_S1024x1024 (constantI S_ 32 w))

/-- A partial product of the reference, quantised and read back as numbers. -/
def coded (P : FVec Ideal S1024x1024 .f32) : FVec Ideal S1024x1024 .f32 :=
  sitofp .f32 (extsi 32 (trunci 8 (fptosi 32 (Host.roundeven (minimumf
    (broadcastInDim S1024x1024 ![] bcast_S_S1024x1024 (id (constant S_ .f32 0x42FE0000#32)))
    (maximumf (broadcastInDim S1024x1024 ![] bcast_S_S1024x1024 (id (constant S_ .f32 0xC2FE0000#32)))
      (mulf P (broadcastInDim S1024x1024 ![] bcast_S_S1024x1024 (constant S_ .f32 0x3F8FAF21#32))))))) natLt_8_32) natLt_8_32)

theorem coded_apply (P : FVec Ideal S1024x1024 .f32) (i : S1024x1024.Idx) : coded P i = codeVal (P i) :=
  wide_eq (P i)

/-- The exact part of the reference's sum that comes from device `w`'s partial product. -/
def kept (w : BitVec 32) (P : FVec Ideal S1024x1024 .f32) : FVec Ideal S1024x1024 .f32 :=
  select (mine w) P (broadcastInDim S1024x1024 ![] bcast_S_S1024x1024 (id (constant S_ .f32 0x00000000#32)))

/-- The quantised part that comes from it. -/
def sent (w : BitVec 32) (P : FVec Ideal S1024x1024 .f32) : FVec Ideal S1024x1024 .f32 :=
  select (mine w) (broadcastInDim S1024x1024 ![] bcast_S_S1024x1024 (id (constant S_ .f32 0x00000000#32))) (coded P)

theorem mine_apply (d : Fin 4) (R l : Fin 1024) :
    mine (BitVec.ofNat 32 d.val) (ix2 R l) = BitVec.ofBool (decide (R.val / 256 = d.val)) := by
  have h : mine (BitVec.ofNat 32 d.val) (ix2 R l) = BitVec.ofBool (owner (ix2 R l) == BitVec.ofNat 32 d.val) := rfl
  rw [h, owner_apply]
  congr 1
  rw [Bool.eq_iff_iff, beq_iff_eq, decide_eq_true_iff]
  constructor
  · intro e
    have e' := congrArg BitVec.toNat e
    rw [BitVec.toNat_ofNat, BitVec.toNat_ofNat] at e'
    have := R.isLt; have := d.isLt
    omega
  · intro e; rw [e]

theorem kept_apply (d : Fin 4) (P : FVec Ideal S1024x1024 .f32) (R l : Fin 1024) :
    kept (BitVec.ofNat 32 d.val) P (ix2 R l) = if R.val / 256 = d.val then P (ix2 R l) else 0 := by
  have h : kept (BitVec.ofNat 32 d.val) P (ix2 R l)
      = Scalar.select (mine (BitVec.ofNat 32 d.val) (ix2 R l)) (P (ix2 R l)) (Ideal.ofBits .f32 0x00000000#32) := rfl
  rw [h, mine_apply, Ideal.ofBits_zero_f32]
  by_cases e : R.val / 256 = d.val <;> simp [e, Scalar.select]

theorem sent_apply (d : Fin 4) (P : FVec Ideal S1024x1024 .f32) (R l : Fin 1024) :
    sent (BitVec.ofNat 32 d.val) P (ix2 R l) = if R.val / 256 = d.val then 0 else codeVal (P (ix2 R l)) := by
  have h : sent (BitVec.ofNat 32 d.val) P (ix2 R l)
      = Scalar.select (mine (BitVec.ofNat 32 d.val) (ix2 R l)) (Ideal.ofBits .f32 0x00000000#32) (coded P (ix2 R l)) := rfl
  rw [h, mine_apply, Ideal.ofBits_zero_f32, coded_apply]
  by_cases e : R.val / 256 = d.val <;> simp [e, Scalar.select]

/-- The product of a 1024 by 512 and a 512 by 1024 array, at an element. -/
theorem dot_apply (X : FVec Ideal S1024x512 .f32) (Y : FVec Ideal S512x1024 .f32) (R l : Fin 1024) :
    Host.dotGeneral dot_S1024x512_S512x1024_S1024x1024_1_0_0_1_n_n none X Y (ix2 R l)
      = ∑ k : Fin 512, X (ix2 R k) * Y (ix2 k l) := by
  simp only [pointwise]
  exact zero_add _

/-- The four partial products of the reference. -/
def prod (A : FVec Ideal S1024x2048 .f32) (B : FVec Ideal S2048x1024 .f32) : Fin 4 → FVec Ideal S1024x1024 .f32
  | 0 => Host.dotGeneral dot_S1024x512_S512x1024_S1024x1024_1_0_0_1_n_n none (extractStridedSlice S1024x512 ![0, 0] A slices_S1024x2048_S1024x512_0_0) (extractStridedSlice S512x1024 ![0, 0] B slices_S2048x1024_S512x1024_0_0)
  | 1 => Host.dotGeneral dot_S1024x512_S512x1024_S1024x1024_1_0_0_1_n_n none (extractStridedSlice S1024x512 ![0, 512] A slices_S1024x2048_S1024x512_0_512) (extractStridedSlice S512x1024 ![512, 0] B slices_S2048x1024_S512x1024_512_0)
  | 2 => Host.dotGeneral dot_S1024x512_S512x1024_S1024x1024_1_0_0_1_n_n none (extractStridedSlice S1024x512 ![0, 1024] A slices_S1024x2048_S1024x512_0_1024) (extractStridedSlice S512x1024 ![1024, 0] B slices_S2048x1024_S512x1024_1024_0)
  | 3 => Host.dotGeneral dot_S1024x512_S512x1024_S1024x1024_1_0_0_1_n_n none (extractStridedSlice S1024x512 ![0, 1536] A slices_S1024x2048_S1024x512_0_1536) (extractStridedSlice S512x1024 ![1536, 0] B slices_S2048x1024_S512x1024_1536_0)

theorem prod_apply (A : FVec Ideal S1024x2048 .f32) (B : FVec Ideal S2048x1024 .f32) (d : Fin 4) (R l : Fin 1024) :
    prod A B d (ix2 R l) = partialAt A B d R l := by
  unfold partialAt
  fin_cases d <;>
  · refine (dot_apply _ _ R l).trans (Finset.sum_congr rfl fun k _ => ?_)
    simp only [pointwise]
    refine congrArg₂ (· * ·) (congrArg A (congrArg₂ ix2 (Fin.ext ?_) (Fin.ext ?_))) (congrArg B (congrArg₂ ix2 (Fin.ext ?_) (Fin.ext ?_))) <;> simp

/-- The reference's result, from its two arguments. -/
def refOut (A : FVec Ideal S1024x2048 .f32) (B : FVec Ideal S2048x1024 .f32) : FVec Ideal S1024x1024 .f32 :=
  addf
    (addf (addf (addf (addf (broadcastInDim S1024x1024 ![] bcast_S_S1024x1024 (constant S_ .f32 0x00000000#32))
      (kept 0#32 (prod A B 0))) (kept 1#32 (prod A B 1))) (kept 2#32 (prod A B 2))) (kept 3#32 (prod A B 3)))
    (mulf
      (addf (addf (addf (addf (broadcastInDim S1024x1024 ![] bcast_S_S1024x1024 (constant S_ .f32 0x00000000#32))
        (sent 0#32 (prod A B 0))) (sent 1#32 (prod A B 1))) (sent 2#32 (prod A B 2))) (sent 3#32 (prod A B 3)))
      (broadcastInDim S1024x1024 ![] bcast_S_S1024x1024 (constant S_ .f32 0x3F640E4D#32)))

set_option maxRecDepth 8192 in
/-- It is the term the reference's run ends with. -/
theorem res_eq (m : (ℓ : Loc nD τ sig) → Buf (Elt Ideal) ℓ) (c : Dev nD) :
    Cert.ReferenceIdeal.Value.res_out0 m c
      = refOut (m ((c.tc : Thread nD τ).loc main_arg0)) (m ((c.tc : Thread nD τ).loc main_arg1)) := by
  unfold Cert.ReferenceIdeal.Value.res_out0 Cert.ReferenceIdeal.Value.res_main_v82
  rfl

/-- Its element at row `R` and column `l`. -/
theorem refOut_apply (A : FVec Ideal S1024x2048 .f32) (B : FVec Ideal S2048x1024 .f32) (R l : Fin 1024) :
    refOut A B (ix2 R l)
      = ((((0 + if R.val / 256 = 0 then partialAt A B 0 R l else 0) + if R.val / 256 = 1 then partialAt A B 1 R l else 0)
            + if R.val / 256 = 2 then partialAt A B 2 R l else 0) + if R.val / 256 = 3 then partialAt A B 3 R l else 0)
        + ((((0 + if R.val / 256 = 0 then 0 else codeVal (partialAt A B 0 R l)) + if R.val / 256 = 1 then 0 else codeVal (partialAt A B 1 R l))
            + if R.val / 256 = 2 then 0 else codeVal (partialAt A B 2 R l)) + if R.val / 256 = 3 then 0 else codeVal (partialAt A B 3 R l))
          * scaleDown := by
  have k0 := kept_apply 0 (prod A B 0) R l
  have k1 := kept_apply 1 (prod A B 1) R l
  have k2 := kept_apply 2 (prod A B 2) R l
  have k3 := kept_apply 3 (prod A B 3) R l
  have s0 := sent_apply 0 (prod A B 0) R l
  have s1 := sent_apply 1 (prod A B 1) R l
  have s2 := sent_apply 2 (prod A B 2) R l
  have s3 := sent_apply 3 (prod A B 3) R l
  rw [prod_apply] at k0 k1 k2 k3 s0 s1 s2 s3
  have h : refOut A B (ix2 R l)
      = ((((Ideal.ofBits .f32 0x00000000#32 + kept 0#32 (prod A B 0) (ix2 R l)) + kept 1#32 (prod A B 1) (ix2 R l))
            + kept 2#32 (prod A B 2) (ix2 R l)) + kept 3#32 (prod A B 3) (ix2 R l))
        + ((((Ideal.ofBits .f32 0x00000000#32 + sent 0#32 (prod A B 0) (ix2 R l)) + sent 1#32 (prod A B 1) (ix2 R l))
            + sent 2#32 (prod A B 2) (ix2 R l)) + sent 3#32 (prod A B 3) (ix2 R l))
          * scaleDown := rfl
  rw [h, Ideal.ofBits_zero_f32]
  exact congrArg₂ (· + ·) (congrArg₂ (· + ·) (congrArg₂ (· + ·) (congrArg₂ (· + ·) (congrArg (0 + ·) k0) k1) k2) k3)
    (congrArg (· * scaleDown) (congrArg₂ (· + ·) (congrArg₂ (· + ·) (congrArg₂ (· + ·) (congrArg (0 + ·) s0) s1) s2) s3))

end Cert.Exchange.Ref

end
-- ==== Proof.Equation.lean ====
/-
  The kernel's result against the reference's. Where every device's argument buffers hold its block of the whole arrays
  `A` (cut along the columns) and `B` (cut along the rows), the rows a device takes of its block of `A` are those of the
  device it works for, so each product it forms is one of the reference's partial products (`own_apply`, `code_apply`); what
  device `c` ends with is then its own partial product plus the scaled sum of the three bytes its peers sent, and on the
  rows `256 c … 256 c + 255` the reference's masked sums over the four devices reduce to the same (`block_refOut`): the
  masked terms are zeros, and the three remaining ones are added in another order, which addition of extended reals does not
  see.
-/
module

public import proofs.«01_k».proof.Proof.Value
public import proofs.«01_k».proof.Proof.Launch
public import Idealize.ShloMosaic.Lib.Layout
public import Idealize.ShloMosaic.Lib.Pointwise.Reshape

@[expose] public section

noncomputable section

namespace Cert.Exchange

open Cert.KernelIdeal Cert.KernelIdeal.Gen
open Idealize.ShloMosaic Idealize.ShloMosaic.TcCoe
open Cert.Exchange.Ref (partialAt refOut refOut_apply)

/-! ## The four payloads at an element -/

theorem own_apply (X : FVec Ideal S256x512 .f32) (Y : FVec Ideal S512x1024 .f32) (r : Fin 256) (l : Fin 1024) :
    k0_pay4 (F := Ideal) X Y (ix2 r l) = ∑ k : Fin 512, X (ix2 r k) * Y (ix2 k l) := by
  unfold k0_pay4
  simp only [pointwise]
  exact zero_add _

/-- The bytes of a product, as the three sends form them. -/
def bytes (X : FVec Ideal S256x512 .f32) (Y : FVec Ideal S512x1024 .f32) : IVec S256x1024 8 :=
  fun i => code8 (k0_pay4 (F := Ideal) X Y i)

theorem pay1_eq (X : FVec Ideal S256x512 .f32) (Y : FVec Ideal S512x1024 .f32) :
    k0_pay1 (F := Ideal) X Y = shapeCast S1x256x1024 (bytes X Y) shapeCasts_S256x1024_S1x256x1024 := rfl
theorem pay2_eq (X : FVec Ideal S256x512 .f32) (Y : FVec Ideal S512x1024 .f32) :
    k0_pay2 (F := Ideal) X Y = shapeCast S1x256x1024 (bytes X Y) shapeCasts_S256x1024_S1x256x1024 := rfl
theorem pay3_eq (X : FVec Ideal S256x512 .f32) (Y : FVec Ideal S512x1024 .f32) :
    k0_pay3 (F := Ideal) X Y = shapeCast S1x256x1024 (bytes X Y) shapeCasts_S256x1024_S1x256x1024 := rfl

/-- A received array of bytes read as a matrix is the matrix that was sent. -/
theorem unsent (x : IVec S256x1024 8) :
    shapeCast S256x1024 (shapeCast S1x256x1024 x shapeCasts_S256x1024_S1x256x1024) shapeCasts_S1x256x1024_S256x1024 = x := by
  funext i
  exact congrArg x (by simp [Shape.reshapeEquiv])

/-- The last payload at an element, of the device's own product and three arrays of bytes. -/
theorem sum_apply (P : FVec Ideal S256x1024 .f32) (x y z : IVec S256x1024 8) (i : S256x1024.Idx) :
    k0_pay5 (F := Ideal) P (shapeCast S1x256x1024 x shapeCasts_S256x1024_S1x256x1024) (shapeCast S1x256x1024 y shapeCasts_S256x1024_S1x256x1024)
        (shapeCast S1x256x1024 z shapeCasts_S256x1024_S1x256x1024) i
      = P i + (((((x i).toInt : ℝ) : EReal) + (((y i).toInt : ℝ) : EReal)) + (((z i).toInt : ℝ) : EReal)) * scaleDown := by
  unfold k0_pay5
  rw [unsent, unsent, unsent]
  rfl

/-! ## What a device loads, in the whole arrays -/

section Loads

variable (m : (ℓ : Loc nD τ sig) → Buf (Elt Ideal) ℓ) (ρ : Dev nD → PrngReg)

/-- The window of each argument is its whole buffer. -/
theorem aStg_eq (c : Dev nD) : aStg m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem bStg_eq (c : Dev nD) : bStg m ρ c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- Where each load of the left argument starts: the rows of the device it is for. -/
theorem off_0 : ∀ c : Dev nD, k0_off1 c 1#32 = ![256 * (pr 0 c).val, 0] := by decide
theorem off_1 : ∀ c : Dev nD, k0_off2 c = ![256 * (pr 1 c).val, 0] := by decide
theorem off_2 : ∀ c : Dev nD, k0_off1 c 2#32 = ![256 * (pr 2 c).val, 0] := by decide
theorem off_own : ∀ c : Dev nD, k0_off3 c = ![256 * c.val, 0] := by decide

/-- Two hundred and fifty-six rows of the left argument's staging buffer, at an element. -/
theorem rows_apply (f : (cc0_stg0_0 : Ref sig .tc).ty.Contents (Elt Ideal)) {off : Fin 2 → ℕ}
    (inb : ∀ a, off a + S256x512.size a ≤ S1024x512.size a) (d : Fin 4) (h : off = ![256 * d.val, 0]) (r : Fin 256) (k : Fin 512) :
    aM.view.readAt (Elt Ideal) (Rect.unit (s := S1024x512) off S256x512.size inb).toLoadRect f (ix2 r k)
      = f (ix2 (⟨256 * d.val + r.val, by omega⟩ : Fin 1024) k) := by
  subst h
  refine congrArg f (funext fun a => Fin.ext ?_)
  match a with
  | ⟨0, _⟩ => show 256 * d.val + 1 * r.val = 256 * d.val + r.val; omega
  | ⟨1, _⟩ => show 0 + 1 * k.val = k.val; omega

theorem bLd_eq (c : Dev nD) : bLd m ρ c = bStg m ρ c := by
  funext i
  refine congrArg (bStg m ρ c) (funext fun a => Fin.ext ?_)
  match a with
  | ⟨0, _⟩ => show 0 + 1 * (i 0).val = (i 0).val; omega
  | ⟨1, _⟩ => show 0 + 1 * (i 1).val = (i 1).val; omega

variable (A : FVec Ideal ⟨2, ![1024, 2048]⟩ .f32) (B : FVec Ideal ⟨2, ![2048, 1024]⟩ .f32)

/-- Every device's argument buffers hold its blocks of the whole arrays. -/
def Dealt : Prop := ∀ c : Dev nD,
  m ((c.tc : Thread nD τ).loc main_arg0) = Layout.block ⟨2, ![1024, 512]⟩ ⟨2, ![1024, 2048]⟩ 1 4 c A
  ∧ m ((c.tc : Thread nD τ).loc main_arg1) = Layout.block ⟨2, ![512, 1024]⟩ ⟨2, ![2048, 1024]⟩ 0 4 c B

variable {m A B}

theorem aStg_apply (hD : Dealt m A B) (c : Dev nD) (R : Fin 1024) (k : Fin 512) :
    aStg m ρ c (ix2 R k) = A (ix2 R (⟨512 * c.val + k.val, by have : c.val < 4 := c.isLt; omega⟩ : Fin 2048)) := by
  rw [aStg_eq, (hD c).1]
  refine congrArg A (funext fun a => Fin.ext ?_)
  match a with
  | ⟨0, _⟩ => rfl
  | ⟨1, _⟩ => show c.val * 512 + k.val = 512 * c.val + k.val; omega

theorem bLd_apply (hD : Dealt m A B) (c : Dev nD) (k : Fin 512) (l : Fin 1024) :
    bLd m ρ c (ix2 k l) = B (ix2 (⟨512 * c.val + k.val, by have : c.val < 4 := c.isLt; omega⟩ : Fin 2048) l) := by
  rw [bLd_eq, bStg_eq, (hD c).2]
  refine congrArg B (funext fun a => Fin.ext ?_)
  match a with
  | ⟨0, _⟩ => show c.val * 512 + k.val = 512 * c.val + k.val; omega
  | ⟨1, _⟩ => rfl

/-- The product device `c` forms of the rows of device `d` is the reference's partial product of device `c` on those rows. -/
theorem product_apply (hD : Dealt m A B) (c d : Fin 4) {off : Fin 2 → ℕ}
    (inb : ∀ a, off a + S256x512.size a ≤ S1024x512.size a) (h : off = ![256 * d.val, 0]) (r : Fin 256) (l : Fin 1024) :
    k0_pay4 (F := Ideal) (aM.view.readAt (Elt Ideal) (Rect.unit (s := S1024x512) off S256x512.size inb).toLoadRect (aStg m ρ c)) (bLd m ρ c) (ix2 r l)
      = partialAt A B c ⟨256 * d.val + r.val, by omega⟩ l := by
  rw [own_apply]
  refine Finset.sum_congr rfl fun k _ => ?_
  rw [rows_apply (aStg m ρ c) inb d h, aStg_apply ρ hD, bLd_apply ρ hD]

theorem outAt_apply (hD : Dealt m A B) (c : Fin 4) (r : Fin 256) (l : Fin 1024) :
    outAt m ρ c (ix2 r l)
      = partialAt A B c ⟨256 * c.val + r.val, by omega⟩ l
        + ((codeVal (partialAt A B (pr 0 c) ⟨256 * c.val + r.val, by omega⟩ l) + codeVal (partialAt A B (pr 1 c) ⟨256 * c.val + r.val, by omega⟩ l))
          + codeVal (partialAt A B (pr 2 c) ⟨256 * c.val + r.val, by omega⟩ l)) * scaleDown := by
  have h0 : k0_off1 (pr 0 c) 1#32 = ![256 * c.val, 0] := (off_0 (pr 0 c)).trans (by rw [pr_pr])
  have h1 : k0_off2 (pr 1 c) = ![256 * c.val, 0] := (off_1 (pr 1 c)).trans (by rw [pr_pr])
  have h2 : k0_off1 (pr 2 c) 2#32 = ![256 * c.val, 0] := (off_2 (pr 2 c)).trans (by rw [pr_pr])
  have c0 : code m ρ 0 (pr 0 c) = shapeCast S1x256x1024 (bytes (aLd0 m ρ (pr 0 c)) (bLd m ρ (pr 0 c))) shapeCasts_S256x1024_S1x256x1024 := pay1_eq _ _
  have c1 : code m ρ 1 (pr 1 c) = shapeCast S1x256x1024 (bytes (aLd1 m ρ (pr 1 c)) (bLd m ρ (pr 1 c))) shapeCasts_S256x1024_S1x256x1024 := pay2_eq _ _
  have c2 : code m ρ 2 (pr 2 c) = shapeCast S1x256x1024 (bytes (aLd2 m ρ (pr 2 c)) (bLd m ρ (pr 2 c))) shapeCasts_S256x1024_S1x256x1024 := pay3_eq _ _
  unfold outAt
  rw [c0, c1, c2, sum_apply]
  unfold bytes
  rw [product_apply ρ hD c c _ (off_own c), product_apply ρ hD (pr 0 c) c _ h0, product_apply ρ hD (pr 1 c) c _ h1,
    product_apply ρ hD (pr 2 c) c _ h2]
  rfl

/-- Device `c`'s result is block `c` of the reference's. -/
theorem block_refOut (hD : Dealt m A B) (c : Fin 4) :
    outAt m ρ c = Layout.block ⟨2, ![256, 1024]⟩ ⟨2, ![1024, 1024]⟩ 0 4 c (refOut A B) := by
  funext i
  obtain ⟨r, l, rfl⟩ : ∃ (r : Fin 256) (l : Fin 1024), i = ix2 r l := ⟨i 0, i 1, by funext a; match a with | ⟨0, _⟩ => rfl | ⟨1, _⟩ => rfl⟩
  rw [outAt_apply ρ hD, Layout.block_apply]
  have hi : ∀ h : Layout.Tiles ⟨2, ![256, 1024]⟩ ⟨2, ![1024, 1024]⟩ 0 4,
      h.idx c (ix2 r l) = ix2 (⟨256 * c.val + r.val, by omega⟩ : Fin 1024) l := fun h => by
    funext a
    refine Fin.ext ?_
    match a with
    | ⟨0, _⟩ => show c.val * 256 + r.val = 256 * c.val + r.val; omega
    | ⟨1, _⟩ => rfl
  rw [hi, refOut_apply]
  have hR : ∃ R : Fin 1024, R = ⟨256 * c.val + r.val, by omega⟩ := ⟨_, rfl⟩
  obtain ⟨R, hR⟩ := hR
  have hq : R.val / 256 = c.val := by rw [hR]; show (256 * c.val + r.val) / 256 = c.val; omega
  rw [← hR, hq]
  clear hR hq hi
  fin_cases c <;> simp [pr, add_comm, add_left_comm, add_assoc]

end Loads

end Cert.Exchange

end
-- ==== Proof.Near.lean ====
/-
  How far the reference's result is from the plain product. Where no partial product exceeds 113 in absolute value, none is
  clipped, so an exchanged one comes back within half a code step and a rounding of the two scales (`back_near`); three of
  the four partial products of each element are exchanged, and the four of them add up to the element of the plain product
  (`dot_whole`). So the two differ by at most 1.34 (`near`).
-/
module

public import proofs.«01_k».proof.Proof.Value
public import proofs.«01_k».proof.Proof.Gen.Pre_within_range
public import proofs.«01_k».proof.Proof.Gen.Post_near_product

@[expose] public section

noncomputable section

namespace Cert.Exchange.Ref

open Cert.ReferenceIdeal Cert.ReferenceIdeal.Gen
open Idealize.ShloMosaic Idealize.ShloMosaic.TcCoe

/-! ## The quantiser on a number that is not clipped -/

theorem scaleUp_eq : scaleUp = ((9416481 / 8388608 : ℝ) : EReal) := by
  unfold scaleUp
  simp [Ideal.ofBits, Ideal.ieee, -EReal.coe_mul, -EReal.coe_neg]; norm_num
theorem scaleDown_eq : scaleDown = ((14945869 / 16777216 : ℝ) : EReal) := by
  unfold scaleDown
  simp [Ideal.ofBits, Ideal.ieee, -EReal.coe_mul, -EReal.coe_neg]; norm_num
theorem range_eq : Ideal.ofBits .f32 0x42E20000#32 = ((113 : ℝ) : EReal) := by
  simp [Ideal.ofBits, Ideal.ieee, -EReal.coe_mul, -EReal.coe_neg]; norm_num
theorem bound_eq : Ideal.ofBits .f32 0x3FAB851F#32 = ((11240735 / 8388608 : ℝ) : EReal) := by
  simp [Ideal.ofBits, Ideal.ieee, -EReal.coe_mul, -EReal.coe_neg]; norm_num

/-- Rounding to nearest moves a real by at most a half. -/
theorem roundHalfEven_near (r : ℝ) : |(Ideal.roundHalfEven r : ℝ) - r| ≤ 1 / 2 := by
  have h1 := Int.floor_le r
  have h2 := Int.lt_floor_add_one r
  unfold Ideal.roundHalfEven
  dsimp only
  rw [abs_le]
  split_ifs <;> push_cast <;> constructor <;> linarith

/-- A number that is not clipped comes back from its code within half a code step and a little. -/
theorem back_near {p : ℝ} (hp : |p| ≤ 113) :
    ∃ q : ℝ, codeVal (p : EReal) * scaleDown = (q : EReal) ∧ |q - p| ≤ 4460 / 10000 := by
  have hb := abs_le.1 hp
  refine ⟨(Ideal.roundHalfEven (p * (9416481 / 8388608)) : ℝ) * (14945869 / 16777216), ?_, ?_⟩
  · rw [codeVal_eq]
    unfold rounded
    rw [hi_eq, lo_eq, scaleUp_eq, scaleDown_eq, ← EReal.coe_mul,
      max_eq_right (by exact_mod_cast (by linarith [hb.1] : (-127 : ℝ) ≤ p * (9416481 / 8388608))),
      min_eq_right (by exact_mod_cast (by linarith [hb.2] : p * (9416481 / 8388608) ≤ (127 : ℝ))),
      Ideal.liftRound_coe, ← EReal.coe_mul]
  · have h := abs_le.1 (roundHalfEven_near (p * (9416481 / 8388608)))
    rw [abs_le]
    constructor <;> linarith [h.1, h.2, hb.1, hb.2]

/-- An extended real whose absolute value a comparison found at most 113 is such a real. -/
theorem real_of_fits {z : EReal} (h : Ideal.cmp .ole (max z (-z)) (Ideal.ofBits .f32 0x42E20000#32) = 1#1) :
    ∃ p : ℝ, z = (p : EReal) ∧ |p| ≤ 113 := by
  rw [range_eq] at h
  have hle : max z (-z) ≤ ((113 : ℝ) : EReal) := by
    by_contra hn
    simp [Ideal.cmp, hn] at h
  have h1 := (le_max_left _ _).trans hle
  have h2 := (le_max_right _ _).trans hle
  induction z using EReal.rec with
  | bot => exact absurd h2 (by simp)
  | top => exact absurd h1 (by simp)
  | coe p => exact ⟨p, rfl, abs_le'.2 ⟨by exact_mod_cast h1, by exact_mod_cast h2⟩⟩

/-! ## The precondition and the plain product -/

/-- Where a partial product is at most 113 in absolute value. -/
def fits (P : FVec Ideal S1024x1024 .f32) : IVec S1024x1024 1 :=
  cmpf .ole (Host.absf P) (broadcastInDim S1024x1024 ![] bcast_S_S1024x1024 (constant S_ .f32 0x42E20000#32))

theorem pre_eq (A : FVec Ideal S1024x2048 .f32) (B : FVec Ideal S2048x1024 .f32) :
    Cert.Pre_within_range.fn (F := Ideal) A B
      = andi (andi (andi (fits (prod A B 0)) (fits (prod A B 1))) (fits (prod A B 2))) (fits (prod A B 3)) := rfl

/-- Under the precondition every partial product is a real of absolute value at most 113. -/
theorem partial_real {A : FVec Ideal S1024x2048 .f32} {B : FVec Ideal S2048x1024 .f32}
    (h : Cert.Pre_within_range.fn (F := Ideal) A B = fun _ => 1#1) (d : Fin 4) (R l : Fin 1024) :
    ∃ p : ℝ, partialAt A B d R l = (p : EReal) ∧ |p| ≤ 113 := by
  have hi := congrFun ((pre_eq A B).symm.trans h) (ix2 R l)
  have hand : ∀ x y : BitVec 1, IntOp.andi x y = 1#1 → x = 1#1 ∧ y = 1#1 := by decide
  obtain ⟨h012, h3⟩ := hand _ _ hi
  obtain ⟨h01, h2⟩ := hand _ _ h012
  obtain ⟨h0, h1⟩ := hand _ _ h01
  have hd : fits (prod A B d) (ix2 R l) = 1#1 := by
    fin_cases d
    exacts [h0, h1, h2, h3]
  rw [← prod_apply]
  exact real_of_fits hd

/-- An element of the plain product is the sum of the four partial products there. -/
theorem dot_whole (A : FVec Ideal S1024x2048 .f32) (B : FVec Ideal S2048x1024 .f32) (R l : Fin 1024) :
    Host.dotGeneral Cert.Post_near_product.dot_S1024x2048_S2048x1024_S1024x1024_1_0_0_1_n_n none A B (ix2 R l)
      = partialAt A B 0 R l + partialAt A B 1 R l + partialAt A B 2 R l + partialAt A B 3 R l := by
  have h : Host.dotGeneral Cert.Post_near_product.dot_S1024x2048_S2048x1024_S1024x1024_1_0_0_1_n_n none A B (ix2 R l)
      = ∑ k : Fin 2048, A (ix2 R k) * B (ix2 k l) := by
    simp only [pointwise]
    exact zero_add _
  rw [h, ← Fin.sum_univ_four (fun d => partialAt A B d R l),
    ← Equiv.sum_comp (finProdFinEquiv (m := 4) (n := 512)), Fintype.sum_prod_type]
  refine Finset.sum_congr rfl fun d _ => Finset.sum_congr rfl fun k _ => ?_
  have e : finProdFinEquiv (m := 4) (n := 512) (d, k) = (⟨512 * d.val + k.val, by omega⟩ : Fin 2048) :=
    Fin.ext (by simp [finProdFinEquiv]; omega)
  rw [e]

/-! ## The distance -/

/-- Under the precondition each element of the reference's result is within the bound of the plain product's. -/
theorem near_real {A : FVec Ideal S1024x2048 .f32} {B : FVec Ideal S2048x1024 .f32}
    (h : Cert.Pre_within_range.fn (F := Ideal) A B = fun _ => 1#1) (R l : Fin 1024) :
    ∃ o s : ℝ, refOut A B (ix2 R l) = (o : EReal)
      ∧ partialAt A B 0 R l + partialAt A B 1 R l + partialAt A B 2 R l + partialAt A B 3 R l = (s : EReal)
      ∧ |o - s| ≤ 11240735 / 8388608 := by
  obtain ⟨p0, e0, b0⟩ := partial_real h 0 R l
  obtain ⟨p1, e1, b1⟩ := partial_real h 1 R l
  obtain ⟨p2, e2, b2⟩ := partial_real h 2 R l
  obtain ⟨p3, e3, b3⟩ := partial_real h 3 R l
  obtain ⟨q0, c0, n0⟩ := back_near b0
  obtain ⟨q1, c1, n1⟩ := back_near b1
  obtain ⟨q2, c2, n2⟩ := back_near b2
  obtain ⟨q3, c3, n3⟩ := back_near b3
  have spread : ∀ x y z : EReal, ∀ a b c : ℝ, x * scaleDown = (a : EReal) → y * scaleDown = (b : EReal) → z * scaleDown = (c : EReal) →
      (x + y + z) * scaleDown = ((a + b + c : ℝ) : EReal) := by
    intro x y z a b c hx hy hz
    rw [scaleDown_eq] at hx hy hz ⊢
    rw [EReal.right_distrib_of_nonneg_of_ne_top (by positivity) (EReal.coe_ne_top _), EReal.right_distrib_of_nonneg_of_ne_top (by positivity) (EReal.coe_ne_top _), hx, hy, hz]
    push_cast; rfl
  rw [abs_le] at n0 n1 n2 n3
  rw [refOut_apply, e0, e1, e2, e3]
  have hR : R.val / 256 = 0 ∨ R.val / 256 = 1 ∨ R.val / 256 = 2 ∨ R.val / 256 = 3 := by omega
  rcases hR with hR | hR | hR | hR
  · refine ⟨p0 + (q1 + q2 + q3), p0 + p1 + p2 + p3, ?_, by push_cast; rfl, abs_le.2 ⟨by linarith, by linarith⟩⟩
    simp only [hR, ↓reduceIte, zero_add, add_zero, OfNat.zero_ne_ofNat, zero_ne_one]
    rw [spread _ _ _ _ _ _ c1 c2 c3, ← EReal.coe_add]
  · refine ⟨p1 + (q0 + q2 + q3), p0 + p1 + p2 + p3, ?_, by push_cast; rfl, abs_le.2 ⟨by linarith, by linarith⟩⟩
    simp only [hR, ↓reduceIte, zero_add, add_zero, OfNat.one_ne_ofNat, one_ne_zero]
    rw [spread _ _ _ _ _ _ c0 c2 c3, ← EReal.coe_add]
  · refine ⟨p2 + (q0 + q1 + q3), p0 + p1 + p2 + p3, ?_, by push_cast; rfl, abs_le.2 ⟨by linarith, by linarith⟩⟩
    simp only [hR, ↓reduceIte, zero_add, add_zero, OfNat.ofNat_ne_zero, OfNat.ofNat_ne_one, Nat.reduceEqDiff]
    rw [spread _ _ _ _ _ _ c0 c1 c3, ← EReal.coe_add]
  · refine ⟨p3 + (q0 + q1 + q2), p0 + p1 + p2 + p3, ?_, by push_cast; rfl, abs_le.2 ⟨by linarith, by linarith⟩⟩
    simp only [hR, ↓reduceIte, zero_add, add_zero, OfNat.ofNat_ne_zero, OfNat.ofNat_ne_one, Nat.reduceEqDiff]
    rw [spread _ _ _ _ _ _ c0 c1 c2, ← EReal.coe_add]

/-- The postcondition: the comparison with the bound holds at every element. -/
theorem near {A : FVec Ideal S1024x2048 .f32} {B : FVec Ideal S2048x1024 .f32}
    (h : Cert.Pre_within_range.fn (F := Ideal) A B = fun _ => 1#1) :
    Cert.Post_near_product.fn (F := Ideal) A B (refOut A B) = fun _ => 1#1 := by
  funext i
  obtain ⟨R, l, rfl⟩ : ∃ R l : Fin 1024, i = ix2 R l := ⟨i 0, i 1, funext fun a => by fin_cases a <;> rfl⟩
  obtain ⟨o, s, ho, hs, hos⟩ := near_real h R l
  have hd := (dot_whole A B R l).trans hs
  have e : Cert.Post_near_product.fn (F := Ideal) A B (refOut A B) (ix2 R l)
      = Ideal.cmp .ole (max (refOut A B (ix2 R l) - Host.dotGeneral Cert.Post_near_product.dot_S1024x2048_S2048x1024_S1024x1024_1_0_0_1_n_n none A B (ix2 R l))
          (-(refOut A B (ix2 R l) - Host.dotGeneral Cert.Post_near_product.dot_S1024x2048_S2048x1024_S1024x1024_1_0_0_1_n_n none A B (ix2 R l))))
        (Ideal.ofBits .f32 0x3FAB851F#32) := rfl
  rw [e, ho, hd, bound_eq, ← EReal.coe_sub]
  have hle : max ((o - s : ℝ) : EReal) (-((o - s : ℝ) : EReal)) ≤ ((11240735 / 8388608 : ℝ) : EReal) :=
    max_le (by exact_mod_cast (abs_le'.1 hos).1) (by exact_mod_cast (abs_le'.1 hos).2)
  unfold Ideal.cmp
  exact congrArg BitVec.ofBool (decide_eq_true hle)

end Cert.Exchange.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_within_range
public import proofs.«01_k».proof.Proof.Gen.Post_near_product
public import proofs.«01_k».proof.Proof.Launch
public import proofs.«01_k».proof.Proof.Equation
public import proofs.«01_k».proof.Proof.Near
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.Exchange (outAt finalA final_arg0 final_arg1 run_main block_refOut)

set_option maxRecDepth 65536 in
/-- The two programs' kernels are one text: the body tables agree, the single label's row by computation. -/
theorem rows_eq : Cert.Kernel.defs₀ (F := Bits) = Cert.KernelIdeal.defs₀ (F := Bits) := by
  refine congrArg Defs.onTc ?_
  funext ℓ a
  match ℓ with
  | 0 => exact rfl

set_option maxRecDepth 65536 in
theorem tables_eq : Cert.Kernel.defs (F := Bits) = Cert.KernelIdeal.defs (F := Bits) :=
  congrArg (Pipeline.defs (Cert.KernelIdeal.pcfgs (F := Bits))) rows_eq

set_option maxRecDepth 65536 in
/-- `Cert.quiescent_Kernel`: the two programs are one text, and the run (Proof/Launch.lean) is for any float values. -/
theorem frame_kernel : Cert.quiescent_Kernel := by
  intro m ρ _
  rw [tables_eq]
  exact (θ_run Cert.KernelIdeal.defs _ _).mono
    (fun _ h => ⟨fun c => ⟨(h.1 c (0 : Fin 3)).trans (final_arg0 m ρ c), (h.1 c (1 : Fin 3)).trans (final_arg1 m ρ c)⟩, h.2⟩)
    (run_main (F := Bits) m ρ)

/-- `Cert.quiescent_KernelIdeal`: the same run on extended reals. -/
theorem frame_kernelIdeal : Cert.quiescent_KernelIdeal := fun m ρ _ =>
  (θ_run Cert.KernelIdeal.defs _ _).mono
    (fun _ h => ⟨fun c => ⟨(h.1 c (0 : Fin 3)).trans (final_arg0 m ρ c), (h.1 c (1 : Fin 3)).trans (final_arg1 m ρ c)⟩, h.2⟩)
    (run_main (F := Ideal) m ρ)

/-- `Cert.quiescent_ReferenceIdeal`: a straight line of host operations on one device, which declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The result window's one block is the whole result buffer, and it ends at what the body leaves. -/
theorem final_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    finalA m ρ c (2 : Fin 3) = outAt m ρ c := by
  have hz : (fun a => (Cert.KernelIdeal.win0_2.index (0 : Fin 1)) a * Cert.KernelIdeal.main_v1.ty.shape.size a) = fun _ => 0 :=
    funext fun a => by fin_cases a <;> decide
  refine (Memref.read_access_unit_zero (Elt Ideal) Cert.KernelIdeal.main_v1 hz (fun a => by fin_cases a <;> decide) _).symm.trans ?_
  unfold finalA
  rw [show Cert.KernelIdeal.cfg0.N = ((0 : Fin 1) : Fin Cert.KernelIdeal.cfg0.N).val + 1 from rfl,
    (Cert.Exchange.dats m ρ 0 c).arrAt_succ (2 : Fin 3) (0 : Fin 1)]
  rw [show (Cert.KernelIdeal.cfg0.win (2 : Fin 3)).flush (0 : Fin 1) = true from by decide, if_pos rfl]
  exact View.read_write_univ _ _

/-- `Cert.algebraic_KernelIdeal_ReferenceIdeal`: on each device the kernel ends with its block of the reference's result
    (Proof/Equation.lean). -/
theorem algebraic : Cert.algebraic_KernelIdeal_ReferenceIdeal := fun m g m' g' _ hag =>
  ⟨Cert.Exchange.Ref.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (final_out m g c)).trans (block_refOut g hag c),
        (h.1 c (0 : Fin 3)).trans (final_arg0 m g c), (h.1 c (1 : Fin 3)).trans (final_arg1 m g c)⟩)
      (run_main (F := Ideal) m g),
    (θ_run Cert.ReferenceIdeal.defs _ _).mono
      (fun _ h => ⟨(h 0).1.trans (Cert.Exchange.Ref.res_eq m' 0), (h 0).2⟩)
      (Cert.ReferenceIdeal.Value.run (F := Ideal) m' g')⟩

/-- `Cert.quiescent_ReferenceIdeal_pre_within_range`: the reference's frame needs no precondition. -/
theorem frame_within_range : Cert.quiescent_ReferenceIdeal_pre_within_range := fun m ρ _ => frame_referenceIdeal m ρ trivial

/-- `Cert.holds_ReferenceIdeal_near_product_pre_within_range`: where nothing is clipped, the reference's result is within the
    stated bound of the plain product (Proof/Near.lean). -/
theorem near_product : Cert.holds_ReferenceIdeal_near_product_pre_within_range := fun m ρ hpre =>
  (θ_run Cert.ReferenceIdeal.defs _ _).mono
    (fun _ h c => ⟨(h c).2.1, (h c).2.2,
      (congrArg (Cert.Post_near_product.fn (F := Ideal) _ _) ((h c).1.trans (Cert.Exchange.Ref.res_eq m c))).trans
        (Cert.Exchange.Ref.near (hpre c))⟩)
    (Cert.ReferenceIdeal.Value.run (F := Ideal) m ρ)

theorem claim : Cert.Claim :=
  ⟨Cert.Kernel.Gen.facts, Cert.KernelIdeal.Gen.facts, Cert.ReferenceIdeal.Gen.facts,
    Cert.Pre_within_range.Gen.facts, Cert.Post_near_product.Gen.facts,
    frame_kernel, frame_kernelIdeal, frame_referenceIdeal, frame_within_range, trivial, algebraic, near_product⟩

end Cert.Proof

end
